-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_within_clip [hPre_within_clip : Cert.Pre_within_clip.Facts] (m : (ℓ : Loc Cert.KernelIdeal.nD Cert.KernelIdeal.τ Cert.KernelIdeal.sig) → Buf (Elt Ideal) ℓ) : Prop :=
  ∀ c : Dev Cert.KernelIdeal.nD,
    (Cert.Pre_within_clip.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_within_clip [hPre_within_clip : Cert.Pre_within_clip.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_within_clip.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_within_clip [hKernelIdeal : Cert.KernelIdeal.Facts] [hPre_within_clip : Cert.Pre_within_clip.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_within_clip m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_within_clip [hReferenceIdeal : Cert.ReferenceIdeal.Facts] [hPre_within_clip : Cert.Pre_within_clip.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_within_clip m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal_pre_within_clip [hKernelIdeal : Cert.KernelIdeal.Facts] [hReferenceIdeal : Cert.ReferenceIdeal.Facts] [hPre_within_clip : Cert.Pre_within_clip.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_within_clip m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v21)) (v1 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_v23) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_v55_7) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_within_clip : Cert.Pre_within_clip.Facts),
    quiescent_Kernel (hKernel := hKernel)
    ∧ quiescent_KernelIdeal (hKernelIdeal := hKernelIdeal)
    ∧ quiescent_KernelIdeal_pre_within_clip (hKernelIdeal := hKernelIdeal) (hPre_within_clip := hPre_within_clip)
    ∧ quiescent_ReferenceIdeal (hReferenceIdeal := hReferenceIdeal)
    ∧ quiescent_ReferenceIdeal_pre_within_clip (hReferenceIdeal := hReferenceIdeal) (hPre_within_clip := hPre_within_clip)
    ∧ preserves_Kernel_KernelIdeal
    ∧ algebraic_KernelIdeal_ReferenceIdeal_pre_within_clip (hKernelIdeal := hKernelIdeal) (hReferenceIdeal := hReferenceIdeal) (hPre_within_clip := hPre_within_clip)
-- ==== Pre_within_clip.lean ====
abbrev S2x1024x1024 : Shape := ⟨3, ![2, 1024, 1024]⟩
abbrev S1024x1024 : Shape := ⟨2, ![1024, 1024]⟩
abbrev S1024x16 : Shape := ⟨2, ![1024, 16]⟩
abbrev S16 : Shape := ⟨1, ![16]⟩
abbrev S2x16x64x64 : Shape := ⟨4, ![2, 16, 64, 64]⟩
abbrev S2x1024 : Shape := ⟨2, ![2, 1024]⟩
abbrev S2x1 : Shape := ⟨2, ![2, 1]⟩
abbrev S2 : Shape := ⟨1, ![2]⟩
abbrev S2x1x1x1 : Shape := ⟨4, ![2, 1, 1, 1]⟩
abbrev S_ : Shape := ⟨0, ![]⟩

class Facts : Prop where
  slices_S2x1024_S2x1_0_0 : S2x1024.Slices ![0, 0] S2x1
  shapeCasts_S2x1_S2 : S2x1.ShapeCasts S2
  shapeCasts_S2_S2x1x1x1 : S2.ShapeCasts S2x1x1x1
  bcast_S_S2x16x64x64 : S_.BroadcastsInDim S2x16x64x64 (![] : Fin 0 → Fin S2x16x64x64.rank)
  bcast_S2x1x1x1_S2x16x64x64_0_1_2_3 : S2x1x1x1.BroadcastsInDim S2x16x64x64 (![0, 1, 2, 3] : Fin 4 → Fin S2x16x64x64.rank)
  reducesTo_S2x16x64x64_S_d0_1_2_3 : S2x16x64x64.ReducesTo [0, 1, 2, 3] S_
  h_S_ : 0 < S_.numel

variable [Facts]

def fn {F : FTy → Type} [FloatOps F] (main_arg0 : FVec F S2x1024x1024 .f32) (main_arg1 : FVec F S1024x1024 .f32) (main_arg2 : FVec F S1024x1024 .f32) (main_arg3 : FVec F S1024x1024 .f32) (main_arg4 : FVec F S1024x16 .f32) (main_arg5 : FVec F S16 .f32) (main_arg6 : FVec F S1024x16 .f32) (main_arg7 : FVec F S16 .f32) (main_arg8 : FVec F S1024x1024 .f32) (main_arg9 : FVec F S2x16x64x64 .f32) (main_arg10 : IVec S2x1024 1) : IVec S_ 1 :=
  let main_v0 : IVec S2x1 1 := (extractStridedSlice S2x1 ![0, 0] · slices_S2x1024_S2x1_0_0) main_arg10
  let main_v1 : IVec S2 1 := shapeCast S2 main_v0 shapeCasts_S2x1_S2
  let main_v2 : IVec S2x1x1x1 1 := shapeCast S2x1x1x1 main_v1 shapeCasts_S2_S2x1x1x1
  let main_v3 : FVec F S2x16x64x64 .f32 := Host.absf main_arg9
  let main_cst : FVec F S_ .f32 := constant S_ .f32 0x40A00000#32
  let main_v4 : FVec F S2x16x64x64 .f32 := broadcastInDim S2x16x64x64 ![] bcast_S_S2x16x64x64 main_cst
  let main_v5 : IVec S2x16x64x64 1 := cmpf .ole main_v3 main_v4
  let main_v6 : IVec S2x16x64x64 1 := broadcastInDim S2x16x64x64 ![0, 1, 2, 3] bcast_S2x1x1x1_S2x16x64x64_0_1_2_3 main_v2
  let main_v7 : IVec S2x16x64x64 1 := ori main_v6 main_v5
  let main_c : IVec S_ 1 := constantI S_ 1 1#1
  let main_v8 : IVec S_ 1 := (fun x v => Host.reduce IntOp.andi x v reducesTo_S2x16x64x64_S_d0_1_2_3 h_S_) main_v7 main_c
  main_v8
-- ==== Kernel.lean ====
abbrev S2x1024x1024 : Shape := ⟨3, ![2, 1024, 1024]⟩
abbrev S1024x1024 : Shape := ⟨2, ![1024, 1024]⟩
abbrev S1024x16 : Shape := ⟨2, ![1024, 16]⟩
abbrev S16 : Shape := ⟨1, ![16]⟩
abbrev S2x16x64x64 : Shape := ⟨4, ![2, 16, 64, 64]⟩
abbrev S2x1024 : Shape := ⟨2, ![2, 1024]⟩
abbrev S16x1024 : Shape := ⟨2, ![16, 1024]⟩
abbrev S2048x1024 : Shape := ⟨2, ![2048, 1024]⟩
abbrev S1024x32 : Shape := ⟨2, ![1024, 32]⟩
abbrev S32 : Shape := ⟨1, ![32]⟩
abbrev S1x32 : Shape := ⟨2, ![1, 32]⟩
abbrev S2048x1 : Shape := ⟨2, ![2048, 1]⟩
abbrev S256x1024 : Shape := ⟨2, ![256, 1024]⟩
abbrev S256x1 : Shape := ⟨2, ![256, 1]⟩
abbrev S256x16 : Shape := ⟨2, ![256, 16]⟩
abbrev S256x32 : Shape := ⟨2, ![256, 32]⟩
abbrev S2x1024x16x64 : Shape := ⟨4, ![2, 1024, 16, 64]⟩
abbrev S2x64x16x64 : Shape := ⟨4, ![2, 64, 16, 64]⟩
abbrev S2x64x1024 : Shape := ⟨3, ![2, 64, 1024]⟩
abbrev S2x128x16x64 : Shape := ⟨4, ![2, 128, 16, 64]⟩
abbrev S2x128x1024 : Shape := ⟨3, ![2, 128, 1024]⟩
abbrev S1x1x16x64 : Shape := ⟨4, ![1, 1, 16, 64]⟩
abbrev S16x64 : Shape := ⟨2, ![16, 64]⟩
abbrev S1x1x1024 : Shape := ⟨3, ![1, 1, 1024]⟩
abbrev S1x1024 : Shape := ⟨2, ![1, 1024]⟩
abbrev S2x64 : Shape := ⟨2, ![2, 64]⟩
abbrev S2x128 : Shape := ⟨2, ![2, 128]⟩
abbrev S64x128 : Shape := ⟨2, ![64, 128]⟩
abbrev S1x64x128 : Shape := ⟨3, ![1, 64, 128]⟩
abbrev S128 : Shape := ⟨1, ![128]⟩
abbrev S1x128 : Shape := ⟨2, ![1, 128]⟩
abbrev S512x1024 : Shape := ⟨2, ![512, 1024]⟩

abbrev nBuf : Space → Nat
  | .hbm => 41
  | .vmem => 42
  | .smem => 0
  | _ => 0

abbrev bufTy : (tb : Table) → Fin (tcTables nBuf tb) → BufTy
  | .hbm, ⟨0, _⟩ => ⟨S2x1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x16, .f32⟩
  | .hbm, ⟨5, _⟩ => ⟨S16, .f32⟩
  | .hbm, ⟨6, _⟩ => ⟨S1024x16, .f32⟩
  | .hbm, ⟨7, _⟩ => ⟨S16, .f32⟩
  | .hbm, ⟨8, _⟩ => ⟨S1024x1024, .f32⟩
  | .hbm, ⟨9, _⟩ => ⟨S2x16x64x64, .f32⟩
  | .hbm, ⟨10, _⟩ => ⟨S2x1024, .i1⟩
  | .hbm, ⟨11, _⟩ => ⟨S1024x16, .f32⟩
  | .hbm, ⟨12, _⟩ => ⟨S16x1024, .f32⟩
  | .hbm, ⟨13, _⟩ => ⟨S16x1024, .bf16⟩
  | .hbm, ⟨14, _⟩ => ⟨S2048x1024, .f32⟩
  | .hbm, ⟨15, _⟩ => ⟨S1024x32, .f32⟩
  | .hbm, ⟨16, _⟩ => ⟨S32, .f32⟩
  | .hbm, ⟨17, _⟩ => ⟨S1x32, .f32⟩
  | .hbm, ⟨18, _⟩ => ⟨S2x1024, .f32⟩
  | .hbm, ⟨19, _⟩ => ⟨S2048x1, .f32⟩
  | .hbm, ⟨20, _⟩ => ⟨S2048x1024, .bf16⟩
  | .hbm, ⟨21, _⟩ => ⟨S2048x1024, .bf16⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S2x1024x16x64, .bf16⟩
  | .hbm, ⟨26, _⟩ => ⟨S2x1024x16x64, .bf16⟩
  | .hbm, ⟨27, _⟩ => ⟨S2x1024x1024, .f32⟩
  | .hbm, ⟨28, _⟩ => ⟨S2x1024x1024, .f32⟩
  | .hbm, ⟨29, _⟩ => ⟨S2x1024x1024, .f32⟩
  | .hbm, ⟨30, _⟩ => ⟨S2x64x16x64, .f32⟩
  | .hbm, ⟨31, _⟩ => ⟨S2x64x1024, .f32⟩
  | .hbm, ⟨32, _⟩ => ⟨S2x1024x1024, .f32⟩
  | .hbm, ⟨33, _⟩ => ⟨S2x64x1024, .f32⟩
  | .hbm, ⟨34, _⟩ => ⟨S2048x1024, .f32⟩
  | .hbm, ⟨35, _⟩ => ⟨S2048x1024, .bf16⟩
  | .hbm, ⟨36, _⟩ => ⟨S1024x1024, .bf16⟩
  | .hbm, ⟨37, _⟩ => ⟨S2048x1024, .f32⟩
  | .hbm, ⟨38, _⟩ => ⟨S2x1024x1024, .f32⟩
  | .hbm, ⟨39, _⟩ => ⟨S2x64x16x64, .f32⟩
  | .hbm, ⟨40, _⟩ => ⟨S2x16x64x64, .f32⟩
  | .local _ .vmem, ⟨0, _⟩ => ⟨S256x1024, .f32⟩
  | .local _ .vmem, ⟨1, _⟩ => ⟨S256x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x32, .f32⟩
  | .local _ .vmem, ⟨6, _⟩ => ⟨S1x32, .f32⟩
  | .local _ .vmem, ⟨7, _⟩ => ⟨S256x1, .f32⟩
  | .local _ .vmem, ⟨8, _⟩ => ⟨S256x1, .f32⟩
  | .local _ .vmem, ⟨9, _⟩ => ⟨S1024x16, .f32⟩
  | .local _ .vmem, ⟨10, _⟩ => ⟨S16x1024, .f32⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .vmem, ⟨20, _⟩ => ⟨S256x1024, .f32⟩
  | .local _ .vmem, ⟨21, _⟩ => ⟨S2x128x16x64, .bf16⟩
  | .local _ .vmem, ⟨22, _⟩ => ⟨S2x128x16x64, .bf16⟩
  | .local _ .vmem, ⟨23, _⟩ => ⟨S2x128x16x64, .bf16⟩
  | .local _ .vmem, ⟨24, _⟩ => ⟨S2x128x16x64, .bf16⟩
  | .local _ .vmem, ⟨25, _⟩ => ⟨S2x128x1024, .f32⟩
  | .local _ .vmem, ⟨26, _⟩ => ⟨S2x128x1024, .f32⟩
  | .local _ .vmem, ⟨27, _⟩ => ⟨S2x128x1024, .f32⟩
  | .local _ .vmem, ⟨28, _⟩ => ⟨S2x128x1024, .f32⟩
  | .local _ .vmem, ⟨29, _⟩ => ⟨S2x128x1024, .f32⟩
  | .local _ .vmem, ⟨30, _⟩ => ⟨S2x128x1024, .f32⟩
  | .local _ .vmem, ⟨31, _⟩ => ⟨S2x64x1024, .f32⟩
  | .local _ .vmem, ⟨32, _⟩ => ⟨S16x1024, .bf16⟩
  | .local _ .vmem, ⟨33, _⟩ => ⟨S2x128x1024, .f32⟩
  | .local _ .vmem, ⟨34, _⟩ => ⟨S2x128x1024, .f32⟩
  | .local _ .vmem, ⟨35, _⟩ => ⟨S2x64x1024, .f32⟩
  | .local _ .vmem, ⟨36, _⟩ => ⟨S2x64x1024, .f32⟩
  | .local _ .vmem, ⟨37, _⟩ => ⟨S512x1024, .bf16⟩
  | .local _ .vmem, ⟨38, _⟩ => ⟨S512x1024, .bf16⟩
  | .local _ .vmem, ⟨39, _⟩ => ⟨S1024x1024, .bf16⟩
  | .local _ .vmem, ⟨40, _⟩ => ⟨S512x1024, .f32⟩
  | .local _ .vmem, ⟨41, _⟩ => ⟨S512x1024, .f32⟩
  | _, _ => ⟨S2x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8_0 : Ref sig .tc := ⟨.hbm, 20, rfl⟩
abbrev main_v8_1 : Ref sig .tc := ⟨.hbm, 21, rfl⟩
abbrev main_v8_2 : Ref sig .tc := ⟨.hbm, 22, rfl⟩
abbrev main_v8_3 : Ref sig .tc := ⟨.hbm, 23, rfl⟩
abbrev main_v8_4 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16_0 : Ref sig .tc := ⟨.hbm, 32, rfl⟩
abbrev main_v16_1 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc1_stg0_0 : Ref sig .tc := ⟨.vmem, 21, rfl⟩
abbrev cc1_stg0_1 : Ref sig .tc := ⟨.vmem, 22, rfl⟩
abbrev cc1_stg1_0 : Ref sig .tc := ⟨.vmem, 23, rfl⟩
abbrev cc1_stg1_1 : Ref sig .tc := ⟨.vmem, 24, rfl⟩
abbrev cc1_stg2_0 : Ref sig .tc := ⟨.vmem, 25, rfl⟩
abbrev cc1_stg2_1 : Ref sig .tc := ⟨.vmem, 26, rfl⟩
abbrev cc1_stg3_0 : Ref sig .tc := ⟨.vmem, 27, rfl⟩
abbrev cc1_stg3_1 : Ref sig .tc := ⟨.vmem, 28, rfl⟩
abbrev cc1_stg4_0 : Ref sig .tc := ⟨.vmem, 29, rfl⟩
abbrev cc1_stg4_1 : Ref sig .tc := ⟨.vmem, 30, rfl⟩
abbrev cc1_stg5_0 : Ref sig .tc := ⟨.vmem, 31, rfl⟩
abbrev cc1_stg6_0 : Ref sig .tc := ⟨.vmem, 32, rfl⟩
abbrev cc1_stg7_0 : Ref sig .tc := ⟨.vmem, 33, rfl⟩
abbrev cc1_stg7_1 : Ref sig .tc := ⟨.vmem, 34, rfl⟩
abbrev cc1_stg8_0 : Ref sig .tc := ⟨.vmem, 35, rfl⟩
abbrev cc1_scratch0 : Ref sig .tc := ⟨.vmem, 36, rfl⟩
abbrev cc2_stg0_0 : Ref sig .tc := ⟨.vmem, 37, rfl⟩
abbrev cc2_stg0_1 : Ref sig .tc := ⟨.vmem, 38, rfl⟩
abbrev cc2_stg1_0 : Ref sig .tc := ⟨.vmem, 39, rfl⟩
abbrev cc2_stg2_0 : Ref sig .tc := ⟨.vmem, 40, rfl⟩
abbrev cc2_stg2_1 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc1_sem0_0 : DmaSem sig := 21
abbrev cc1_sem0_1 : DmaSem sig := 22
abbrev cc1_sem1_0 : DmaSem sig := 23
abbrev cc1_sem1_1 : DmaSem sig := 24
abbrev cc1_sem2_0 : DmaSem sig := 25
abbrev cc1_sem2_1 : DmaSem sig := 26
abbrev cc1_sem3_0 : DmaSem sig := 27
abbrev cc1_sem3_1 : DmaSem sig := 28
abbrev cc1_sem4_0 : DmaSem sig := 29
abbrev cc1_sem4_1 : DmaSem sig := 30
abbrev cc1_sem5_0 : DmaSem sig := 31
abbrev cc1_sem6_0 : DmaSem sig := 32
abbrev cc1_sem7_0 : DmaSem sig := 33
abbrev cc1_sem7_1 : DmaSem sig := 34
abbrev cc1_sem8_0 : DmaSem sig := 35
abbrev cc2_sem0_0 : DmaSem sig := 36
abbrev cc2_sem0_1 : DmaSem sig := 37
abbrev cc2_sem1_0 : DmaSem sig := 38
abbrev cc2_sem2_0 : DmaSem sig := 39
abbrev cc2_sem2_1 : DmaSem sig := 40

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S16x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev grid1 : Pipeline.Grid := ⟨1, ![8], ![false]⟩

@[reducible] def k1_t1_loop : Scf.Loop 32 :=
  let c0_i32_2 : BitVec 32 := 0#32
  let c128_i32 : BitVec 32 := 128#32
  let v5 : BitVec 32 := Scalar.addi c0_i32_2 c128_i32
  let c1_i32 : BitVec 32 := 1#32
  ⟨c0_i32_2, v5, c1_i32⟩
def k1_off1 (k1_t1 : Fin k1_t1_loop.trips) : Fin 4 → Nat :=
  let c0_10 : Index := 0#32
  let c0_i32_2 : BitVec 32 := 0#32
  let c1_i32 : BitVec 32 := 1#32
  let arg11 : BitVec 32 := Scf.iv c0_i32_2 c1_i32 k1_t1
  let v8 : Index := Scalar.indexCast arg11
  let c0_11 : Index := 0#32
  let c0_12 : Index := 0#32
  ![0, v8.toNat, 0, 0]
def k1_off2 (k1_t1 : Fin k1_t1_loop.trips) : Fin 3 → Nat :=
  let c0_16 : Index := 0#32
  let c0_i32_2 : BitVec 32 := 0#32
  let c1_i32 : BitVec 32 := 1#32
  let arg11 : BitVec 32 := Scf.iv c0_i32_2 c1_i32 k1_t1
  let v14 : Index := Scalar.indexCast arg11
  let c0_17 : Index := 0#32
  ![0, v14.toNat, 0]
def k1_off3 (k1_t1 : Fin k1_t1_loop.trips) : Fin 4 → Nat :=
  let c1 : Index := 1#32
  let c0_i32_2 : BitVec 32 := 0#32
  let c1_i32 : BitVec 32 := 1#32
  let arg11 : BitVec 32 := Scf.iv c0_i32_2 c1_i32 k1_t1
  let v276 : Index := Scalar.indexCast arg11
  let c0_112 : Index := 0#32
  let c0_113 : Index := 0#32
  ![1, v276.toNat, 0, 0]
def k1_off4 (k1_t1 : Fin k1_t1_loop.trips) : Fin 3 → Nat :=
  let c1_117 : Index := 1#32
  let c0_i32_2 : BitVec 32 := 0#32
  let c1_i32 : BitVec 32 := 1#32
  let arg11 : BitVec 32 := Scf.iv c0_i32_2 c1_i32 k1_t1
  let v282 : Index := Scalar.indexCast arg11
  let c0_118 : Index := 0#32
  ![1, v282.toNat, 0]
def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc1_transform_1 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage1_0 : Fin 2 → Memref sig .tc .vmem S2x128x16x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2x128x16x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2x128x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2x128x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S2x128x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S2x64x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S16x1024 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2x128x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 1 → Memref sig .tc .vmem S2x64x1024 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S512x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]
-- ==== ReferenceIdeal.lean ====
abbrev S2x1024x1024 : Shape := ⟨3, ![2, 1024, 1024]⟩
abbrev S1024x1024 : Shape := ⟨2, ![1024, 1024]⟩
abbrev S1024x16 : Shape := ⟨2, ![1024, 16]⟩
abbrev S16 : Shape := ⟨1, ![16]⟩
abbrev S2x16x64x64 : Shape := ⟨4, ![2, 16, 64, 64]⟩
abbrev S2x1024 : Shape := ⟨2, ![2, 1024]⟩
abbrev S2x1024x16x64 : Shape := ⟨4, ![2, 1024, 16, 64]⟩
abbrev S2x16x1024x64 : Shape := ⟨4, ![2, 16, 1024, 64]⟩
abbrev S_ : Shape := ⟨0, ![]⟩
abbrev S2x16x1024 : Shape := ⟨3, ![2, 16, 1024]⟩
abbrev S2x16x1024x1 : Shape := ⟨4, ![2, 16, 1024, 1]⟩
abbrev S2x1024x16 : Shape := ⟨3, ![2, 1024, 16]⟩
abbrev S1x1x16 : Shape := ⟨3, ![1, 1, 16]⟩
abbrev S1024x2x16x64 : Shape := ⟨4, ![1024, 2, 16, 64]⟩
abbrev S1024x2x16 : Shape := ⟨3, ![1024, 2, 16]⟩
abbrev S1024x2 : Shape := ⟨2, ![1024, 2]⟩
abbrev S1x2x16x64 : Shape := ⟨4, ![1, 2, 16, 64]⟩
abbrev S2x16x64 : Shape := ⟨3, ![2, 16, 64]⟩
abbrev S1x2x16 : Shape := ⟨3, ![1, 2, 16]⟩
abbrev S2x16 : Shape := ⟨2, ![2, 16]⟩
abbrev S1x2 : Shape := ⟨2, ![1, 2]⟩
abbrev S2 : Shape := ⟨1, ![2]⟩
abbrev S2x16x64x1 : Shape := ⟨4, ![2, 16, 64, 1]⟩
abbrev S2x16x1x64 : Shape := ⟨4, ![2, 16, 1, 64]⟩
abbrev S2x16x1x1 : Shape := ⟨4, ![2, 16, 1, 1]⟩
abbrev S2x1x1x1 : Shape := ⟨4, ![2, 1, 1, 1]⟩
abbrev S2x1x1 : Shape := ⟨3, ![2, 1, 1]⟩

abbrev nBuf : Space → Nat
  | .hbm => 154
  | .vmem => 0
  | .smem => 0
  | _ => 0

abbrev hbmTy0_0 (i : Nat) : BufTy := match i % 128 with
  | 0 => ⟨S2x1024x1024, .f32⟩
  | 1 => ⟨S1024x1024, .f32⟩
  | 2 => ⟨S1024x1024, .f32⟩
  | 3 => ⟨S1024x1024, .f32⟩
  | 4 => ⟨S1024x16, .f32⟩
  | 5 => ⟨S16, .f32⟩
  | 6 => ⟨S1024x16, .f32⟩
  | 7 => ⟨S16, .f32⟩
  | 8 => ⟨S1024x1024, .f32⟩
  | 9 => ⟨S2x16x64x64, .f32⟩
  | 10 => ⟨S2x1024, .i1⟩
  | 11 => ⟨S2x1024x1024, .f32⟩
  | 12 => ⟨S2x1024x16x64, .f32⟩
  | 13 => ⟨S2x16x1024x64, .f32⟩
  | 14 => ⟨S2x16x1024x64, .f32⟩
  | 15 => ⟨S_, .f32⟩
  | 16 => ⟨S2x16x1024, .f32⟩
  | 17 => ⟨S2x16x1024x1, .f32⟩
  | 18 => ⟨S2x16x1024x1, .f32⟩
  | 19 => ⟨S_, .f32⟩
  | 20 => ⟨S2x16x1024x1, .f32⟩
  | 21 => ⟨S2x16x1024x1, .f32⟩
  | 22 => ⟨S2x16x1024x64, .f32⟩
  | 23 => ⟨S2x16x1024x64, .f32⟩
  | 24 => ⟨S2x1024x1024, .f32⟩
  | 25 => ⟨S2x1024x16x64, .f32⟩
  | 26 => ⟨S2x16x1024x64, .f32⟩
  | 27 => ⟨S2x16x1024x64, .f32⟩
  | 28 => ⟨S_, .f32⟩
  | 29 => ⟨S2x16x1024, .f32⟩
  | 30 => ⟨S2x16x1024x1, .f32⟩
  | 31 => ⟨S2x16x1024x1, .f32⟩
  | 32 => ⟨S_, .f32⟩
  | 33 => ⟨S2x16x1024x1, .f32⟩
  | 34 => ⟨S2x16x1024x1, .f32⟩
  | 35 => ⟨S2x16x1024x64, .f32⟩
  | 36 => ⟨S2x16x1024x64, .f32⟩
  | 37 => ⟨S2x1024x1024, .f32⟩
  | 38 => ⟨S2x1024x16x64, .f32⟩
  | 39 => ⟨S2x16x1024x64, .f32⟩
  | 40 => ⟨S2x16x1024x64, .f32⟩
  | 41 => ⟨S2x1024x16, .f32⟩
  | 42 => ⟨S1x1x16, .f32⟩
  | 43 => ⟨S2x1024x16, .f32⟩
  | 44 => ⟨S2x1024x16, .f32⟩
  | 45 => ⟨S2x1024x16, .f32⟩
  | 46 => ⟨S2x1024x16, .f32⟩
  | 47 => ⟨S_, .f32⟩
  | 48 => ⟨S2x1024x16, .f32⟩
  | 49 => ⟨S2x1024x16, .f32⟩
  | 50 => ⟨S_, .f32⟩
  | 51 => ⟨S2x1024x16, .f32⟩
  | 52 => ⟨S2x1024x16, .f32⟩
  | 53 => ⟨S2x16x1024, .f32⟩
  | 54 => ⟨S2x1024x16, .f32⟩
  | 55 => ⟨S1x1x16, .f32⟩
  | 56 => ⟨S2x1024x16, .f32⟩
  | 57 => ⟨S2x1024x16, .f32⟩
  | 58 => ⟨S2x1024x16, .f32⟩
  | 59 => ⟨S2x1024x16, .f32⟩
  | 60 => ⟨S_, .f32⟩
  | 61 => ⟨S2x1024x16, .f32⟩
  | 62 => ⟨S2x1024x16, .f32⟩
  | 63 => ⟨S_, .f32⟩
  | 64 => ⟨S2x1024x16, .f32⟩
  | 65 => ⟨S2x1024x16, .f32⟩
  | 66 => ⟨S2x16x1024, .f32⟩
  | 67 => ⟨S1024x2x16x64, .f32⟩
  | 68 => ⟨S1024x2x16x64, .f32⟩
  | 69 => ⟨S1024x2x16x64, .f32⟩
  | 70 => ⟨S1024x2x16, .f32⟩
  | 71 => ⟨S1024x2x16, .f32⟩
  | 72 => ⟨S1024x2, .i1⟩
  | 73 => ⟨S_, .f32⟩
  | 74 => ⟨S1024x2x16x64, .f32⟩
  | 75 => ⟨S_, .i32⟩
  | 76 => ⟨S1024x2x16x64, .f32⟩
  | 77 => ⟨S1024x2x16x64, .f32⟩
  | 78 => ⟨S1024x2x16x64, .f32⟩
  | 79 => ⟨S1024x2x16, .f32⟩
  | 80 => ⟨S1024x2x16, .f32⟩
  | 81 => ⟨S1024x2, .i1⟩
  | 82 => ⟨S_, .i32⟩
  | 83 => ⟨S2x16x64x64, .f32⟩
  | 84 => ⟨S1024x2x16x64, .f32⟩
  | 85 => ⟨S_, .i32⟩
  | 86 => ⟨S_, .i1⟩
  | 87 => ⟨S_, .i32⟩
  | 88 => ⟨S_, .i32⟩
  | 89 => ⟨S_, .i32⟩
  | 90 => ⟨S1x2x16x64, .f32⟩
  | 91 => ⟨S2x16x64, .f32⟩
  | 92 => ⟨S_, .i32⟩
  | 93 => ⟨S_, .i32⟩
  | 94 => ⟨S_, .i32⟩
  | 95 => ⟨S1x2x16x64, .f32⟩
  | 96 => ⟨S2x16x64, .f32⟩
  | 97 => ⟨S_, .i32⟩
  | 98 => ⟨S_, .i32⟩
  | 99 => ⟨S_, .i32⟩
  | 100 => ⟨S1x2x16x64, .f32⟩
  | 101 => ⟨S2x16x64, .f32⟩
  | 102 => ⟨S_, .i32⟩
  | 103 => ⟨S_, .i32⟩
  | 104 => ⟨S1x2x16, .f32⟩
  | 105 => ⟨S2x16, .f32⟩
  | 106 => ⟨S_, .i32⟩
  | 107 => ⟨S_, .i32⟩
  | 108 => ⟨S1x2x16, .f32⟩
  | 109 => ⟨S2x16, .f32⟩
  | 110 => ⟨S_, .i32⟩
  | 111 => ⟨S1x2, .i1⟩
  | 112 => ⟨S2, .i1⟩
  | 113 => ⟨S2x16x64, .f32⟩
  | 114 => ⟨S2x16x64, .f32⟩
  | 115 => ⟨S2x16x64x1, .f32⟩
  | 116 => ⟨S2x16x1x64, .f32⟩
  | 117 => ⟨S2x16x64x64, .f32⟩
  | 118 => ⟨S2x16x64x64, .f32⟩
  | 119 => ⟨S2x16x64x64, .f32⟩
  | 120 => ⟨S2x16x1x1, .f32⟩
  | 121 => ⟨S2x16x64x64, .f32⟩
  | 122 => ⟨S2x16x64x64, .f32⟩
  | 123 => ⟨S2x16x1x1, .f32⟩
  | 124 => ⟨S2x16x64x64, .f32⟩
  | 125 => ⟨S2x16x64x64, .f32⟩
  | 126 => ⟨S2x16x64x64, .f32⟩
  | 127 => ⟨S_, .f32⟩
  | _ => ⟨S2x1024x1024, .f32⟩

abbrev hbmTy0_1 (i : Nat) : BufTy := match i % 128 with
  | 0 => ⟨S_, .f32⟩
  | 1 => ⟨S_, .f32⟩
  | 2 => ⟨S2x16x64x64, .f32⟩
  | 3 => ⟨S2x16x64x64, .f32⟩
  | 4 => ⟨S_, .f32⟩
  | 5 => ⟨S2x16x64x64, .f32⟩
  | 6 => ⟨S2x16x64x64, .f32⟩
  | 7 => ⟨S2x1x1x1, .i1⟩
  | 8 => ⟨S2x16x64x64, .i1⟩
  | 9 => ⟨S2x16x64x64, .f32⟩
  | 10 => ⟨S2x16x64, .f32⟩
  | 11 => ⟨S2x1x1, .i1⟩
  | 12 => ⟨S_, .f32⟩
  | 13 => ⟨S2x16x64, .f32⟩
  | 14 => ⟨S2x16x64, .i1⟩
  | 15 => ⟨S2x16x64, .f32⟩
  | 16 => ⟨S1x2x16x64, .f32⟩
  | 17 => ⟨S_, .i32⟩
  | 18 => ⟨S_, .i32⟩
  | 19 => ⟨S_, .i32⟩
  | 20 => ⟨S1024x2x16x64, .f32⟩
  | 21 => ⟨S_, .i32⟩
  | 22 => ⟨S_, .i32⟩
  | 23 => ⟨S2x1024x16x64, .f32⟩
  | 24 => ⟨S2x1024x1024, .f32⟩
  | 25 => ⟨S2x1024x1024, .f32⟩
  | _ => ⟨S2x1024x1024, .f32⟩

abbrev hbmTy (i : Nat) : BufTy := match i / 128 with
  | 0 => hbmTy0_0 i
  | 1 => hbmTy0_1 i
  | _ => ⟨S2x1024x1024, .f32⟩

abbrev bufTy : (tb : Table) → Fin (tcTables nBuf tb) → BufTy
  | .hbm, ⟨i, _⟩ => hbmTy i
  | _, _ => ⟨S2x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_1 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_2 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_3 : Ref sig .tc := ⟨.hbm, 47, rfl⟩
abbrev main_v32 : Ref sig .tc := ⟨.hbm, 48, rfl⟩
abbrev main_v33 : Ref sig .tc := ⟨.hbm, 49, rfl⟩
abbrev main_cst_4 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_5 : Ref sig .tc := ⟨.hbm, 60, rfl⟩
abbrev main_v43 : Ref sig .tc := ⟨.hbm, 61, rfl⟩
abbrev main_v44 : Ref sig .tc := ⟨.hbm, 62, rfl⟩
abbrev main_cst_6 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_7 : Ref sig .tc := ⟨.hbm, 73, rfl⟩
abbrev main_v54 : Ref sig .tc := ⟨.hbm, 74, rfl⟩
abbrev main_c : Ref sig .tc := ⟨.hbm, 75, rfl⟩
abbrev main_v55_0 : Ref sig .tc := ⟨.hbm, 76, rfl⟩
abbrev main_v55_1 : Ref sig .tc := ⟨.hbm, 77, rfl⟩
abbrev main_v55_2 : Ref sig .tc := ⟨.hbm, 78, rfl⟩
abbrev main_v55_3 : Ref sig .tc := ⟨.hbm, 79, rfl⟩
abbrev main_v55_4 : Ref sig .tc := ⟨.hbm, 80, rfl⟩
abbrev main_v55_5 : Ref sig .tc := ⟨.hbm, 81, rfl⟩
abbrev main_v55_6 : Ref sig .tc := ⟨.hbm, 82, rfl⟩
abbrev main_v55_7 : Ref sig .tc := ⟨.hbm, 83, rfl⟩
abbrev main_v55_8 : Ref sig .tc := ⟨.hbm, 84, rfl⟩
abbrev main_while0c_c_16 : Ref sig .tc := ⟨.hbm, 85, rfl⟩
abbrev main_while0c_v59 : Ref sig .tc := ⟨.hbm, 86, rfl⟩
abbrev main_while0b_call0_c : Ref sig .tc := ⟨.hbm, 87, rfl⟩
abbrev main_while0b_call0_c_0 : Ref sig .tc := ⟨.hbm, 88, rfl⟩
abbrev main_while0b_call0_c_1 : Ref sig .tc := ⟨.hbm, 89, rfl⟩
abbrev main_while0b_call0_v0 : Ref sig .tc := ⟨.hbm, 90, rfl⟩
abbrev main_while0b_v59 : Ref sig .tc := ⟨.hbm, 91, rfl⟩
abbrev main_while0b_call1_c : Ref sig .tc := ⟨.hbm, 92, rfl⟩
abbrev main_while0b_call1_c_0 : Ref sig .tc := ⟨.hbm, 93, rfl⟩
abbrev main_while0b_call1_c_1 : Ref sig .tc := ⟨.hbm, 94, rfl⟩
abbrev main_while0b_call1_v0 : Ref sig .tc := ⟨.hbm, 95, rfl⟩
abbrev main_while0b_v60 : Ref sig .tc := ⟨.hbm, 96, rfl⟩
abbrev main_while0b_call2_c : Ref sig .tc := ⟨.hbm, 97, rfl⟩
abbrev main_while0b_call2_c_0 : Ref sig .tc := ⟨.hbm, 98, rfl⟩
abbrev main_while0b_call2_c_1 : Ref sig .tc := ⟨.hbm, 99, rfl⟩
abbrev main_while0b_call2_v0 : Ref sig .tc := ⟨.hbm, 100, rfl⟩
abbrev main_while0b_v61 : Ref sig .tc := ⟨.hbm, 101, rfl⟩
abbrev main_while0b_call3_c : Ref sig .tc := ⟨.hbm, 102, rfl⟩
abbrev main_while0b_call3_c_0 : Ref sig .tc := ⟨.hbm, 103, rfl⟩
abbrev main_while0b_call3_v0 : Ref sig .tc := ⟨.hbm, 104, rfl⟩
abbrev main_while0b_v62 : Ref sig .tc := ⟨.hbm, 105, rfl⟩
abbrev main_while0b_call4_c : Ref sig .tc := ⟨.hbm, 106, rfl⟩
abbrev main_while0b_call4_c_0 : Ref sig .tc := ⟨.hbm, 107, rfl⟩
abbrev main_while0b_call4_v0 : Ref sig .tc := ⟨.hbm, 108, rfl⟩
abbrev main_while0b_v63 : Ref sig .tc := ⟨.hbm, 109, rfl⟩
abbrev main_while0b_call5_c : Ref sig .tc := ⟨.hbm, 110, rfl⟩
abbrev main_while0b_call5_v0 : Ref sig .tc := ⟨.hbm, 111, rfl⟩
abbrev main_while0b_v64 : Ref sig .tc := ⟨.hbm, 112, rfl⟩
abbrev main_while0b_v65 : Ref sig .tc := ⟨.hbm, 113, rfl⟩
abbrev main_while0b_v66 : Ref sig .tc := ⟨.hbm, 114, rfl⟩
abbrev main_while0b_v67 : Ref sig .tc := ⟨.hbm, 115, rfl⟩
abbrev main_while0b_v68 : Ref sig .tc := ⟨.hbm, 116, rfl⟩
abbrev main_while0b_v69 : Ref sig .tc := ⟨.hbm, 117, rfl⟩
abbrev main_while0b_v70 : Ref sig .tc := ⟨.hbm, 118, rfl⟩
abbrev main_while0b_v71 : Ref sig .tc := ⟨.hbm, 119, rfl⟩
abbrev main_while0b_v72 : Ref sig .tc := ⟨.hbm, 120, rfl⟩
abbrev main_while0b_v73 : Ref sig .tc := ⟨.hbm, 121, rfl⟩
abbrev main_while0b_v74 : Ref sig .tc := ⟨.hbm, 122, rfl⟩
abbrev main_while0b_v75 : Ref sig .tc := ⟨.hbm, 123, rfl⟩
abbrev main_while0b_v76 : Ref sig .tc := ⟨.hbm, 124, rfl⟩
abbrev main_while0b_v77 : Ref sig .tc := ⟨.hbm, 125, rfl⟩
abbrev main_while0b_v78 : Ref sig .tc := ⟨.hbm, 126, rfl⟩
abbrev main_while0b_cst_16 : Ref sig .tc := ⟨.hbm, 127, rfl⟩
abbrev main_while0b_cst_17 : Ref sig .tc := ⟨.hbm, 128, rfl⟩
abbrev main_while0b_call6_v0 : Ref sig .tc := ⟨.hbm, 129, rfl⟩
abbrev main_while0b_call6_v1 : Ref sig .tc := ⟨.hbm, 130, rfl⟩
abbrev main_while0b_call6_v2 : Ref sig .tc := ⟨.hbm, 131, rfl⟩
abbrev main_while0b_call6_v3 : Ref sig .tc := ⟨.hbm, 132, rfl⟩
abbrev main_while0b_call6_v4 : Ref sig .tc := ⟨.hbm, 133, rfl⟩
abbrev main_while0b_v79 : Ref sig .tc := ⟨.hbm, 134, rfl⟩
abbrev main_while0b_v80 : Ref sig .tc := ⟨.hbm, 135, rfl⟩
abbrev main_while0b_call7_v0 : Ref sig .tc := ⟨.hbm, 136, rfl⟩
abbrev main_while0b_v81 : Ref sig .tc := ⟨.hbm, 137, rfl⟩
abbrev main_while0b_v82 : Ref sig .tc := ⟨.hbm, 138, rfl⟩
abbrev main_while0b_v83 : Ref sig .tc := ⟨.hbm, 139, rfl⟩
abbrev main_while0b_cst_18 : Ref sig .tc := ⟨.hbm, 140, rfl⟩
abbrev main_while0b_v84 : Ref sig .tc := ⟨.hbm, 141, rfl⟩
abbrev main_while0b_call8_v0 : Ref sig .tc := ⟨.hbm, 142, rfl⟩
abbrev main_while0b_v85 : Ref sig .tc := ⟨.hbm, 143, rfl⟩
abbrev main_while0b_call9_v0 : Ref sig .tc := ⟨.hbm, 144, rfl⟩
abbrev main_while0b_call9_c : Ref sig .tc := ⟨.hbm, 145, rfl⟩
abbrev main_while0b_call9_c_0 : Ref sig .tc := ⟨.hbm, 146, rfl⟩
abbrev main_while0b_call9_c_1 : Ref sig .tc := ⟨.hbm, 147, rfl⟩
abbrev main_while0b_v86 : Ref sig .tc := ⟨.hbm, 148, rfl⟩
abbrev main_while0b_c_19 : Ref sig .tc := ⟨.hbm, 149, rfl⟩
abbrev main_while0b_v87 : Ref sig .tc := ⟨.hbm, 150, rfl⟩
abbrev main_v56 : Ref sig .tc := ⟨.hbm, 151, rfl⟩
abbrev main_v57 : Ref sig .tc := ⟨.hbm, 152, rfl⟩
abbrev main_v58 : Ref sig .tc := ⟨.hbm, 153, rfl⟩

abbrev nD : Nat := 1
abbrev τ : Topo := Topo.v7x

variable {F : FTy → Type} [FloatOps F]

abbrev main_while0_count : Scf.Loop 32 := ⟨0#32, 1024#32, 1#32⟩
-- ==== Proof.KernelIdeal.Proj.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the buffer contents when the call is entered
variable (V : (c : Dev nD) → (b : Ref sig .tc) → Buf (Elt F) ((c : Thread nD τ).loc b))

/-! # The projections: custom call 0, over the contents `V` it is entered with -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S256x1024 := Rect.unit (s := S256x1024) ![0, 0] S256x1024.size inb_S256x1024_S256x1024_0_0
abbrev r0_1 : Rect S1024x16 := Rect.unit (s := S1024x16) ![0, 0] S1024x16.size inb_S1024x16_S1024x16_0_0
abbrev r0_2 : Rect S16x1024 := Rect.unit (s := S16x1024) ![0, 0] S16x1024.size inb_S16x1024_S16x1024_0_0
abbrev r0_3 : Rect S256x1 := Rect.unit (s := S256x1) ![0, 0] S256x1.size inb_S256x1_S256x1_0_0
abbrev r0_4 : Rect S1024x1024 := Rect.unit (s := S1024x1024) ![0, 0] S1024x1024.size inb_S1024x1024_S1024x1024_0_0
abbrev r0_5 : Rect S1024x32 := Rect.unit (s := S1024x32) ![0, 0] S1024x32.size inb_S1024x32_S1024x32_0_0
abbrev r0_6 : Rect S1x32 := Rect.unit (s := S1x32) ![0, 0] S1x32.size inb_S1x32_S1x32_0_0

/-! ## What the body leaves in each output window's buffer -/

/-! ### Values of the body that the stores' payloads, spelt out, would write more than once

    Each is a vector the body binds (often a part call's result), stated over the input windows' blocks and
    numbered on from the skeleton's payload functions (`k0_pay10` …, after `k0_pay9`), so that
    `out0_W` and the values after it name it instead of spelling it out (`unfold_out out0_W` opens a canon
    with them, `unfold_payloads` opens them with the payloads); the comment after each is the printed function's
    name for the value (a count appended where that name is bound again). -/

def k0_pay10 (x0 : Vec F S256x1024 .f32) (x1 : Vec F S1024x1024 .f32) (x2 : Vec F S1024x1024 .f32) (x3 : Vec F S1024x1024 .f32) (x4 : Vec F S1024x32 .f32) (x5 : Vec F S1x32 .f32) (x6 : Vec F S256x1 .f32) (x7 : Vec F S1024x16 .f32) (x8 : Vec F S16x1024 .f32) : FVec F S256x1024 .f32 :=
  k0_pay5 (View.ld x0 r0_0) -- `v1`
def k0_pay11 (x0 : Vec F S256x1024 .f32) (x1 : Vec F S1024x1024 .f32) (x2 : Vec F S1024x1024 .f32) (x3 : Vec F S1024x1024 .f32) (x4 : Vec F S1024x32 .f32) (x5 : Vec F S1x32 .f32) (x6 : Vec F S256x1 .f32) (x7 : Vec F S1024x16 .f32) (x8 : Vec F S16x1024 .f32) : FVec F S16x1024 .f32 :=
  k0_pay6 (View.ld x8 r0_2) -- `v4`
def k0_pay12 (x0 : Vec F S256x1024 .f32) (x1 : Vec F S1024x1024 .f32) (x2 : Vec F S1024x1024 .f32) (x3 : Vec F S1024x1024 .f32) (x4 : Vec F S1024x32 .f32) (x5 : Vec F S1x32 .f32) (x6 : Vec F S256x1 .f32) (x7 : Vec F S1024x16 .f32) (x8 : Vec F S16x1024 .f32) : FVec F S256x1 .f32 :=
  k0_pay7 (View.ld x6 r0_3) -- `v6`

/-- Window 9's staging buffer after the body, from the input windows' blocks: its 1 store as pieces, LAST
    FIRST (Lib/Pipeline/FrameBody.lean `View.canon`; the payloads are the skeleton's and the values stated above). -/
def out0_9 (x0 : Vec F S256x1024 .f32) (x1 : Vec F S1024x1024 .f32) (x2 : Vec F S1024x1024 .f32) (x3 : Vec F S1024x1024 .f32) (x4 : Vec F S1024x32 .f32) (x5 : Vec F S1x32 .f32) (x6 : Vec F S256x1 .f32) (x7 : Vec F S1024x16 .f32) (x8 : Vec F S16x1024 .f32) : Vec F S256x1024 .bf16 :=
  View.canon [⟨r0_0, k0_pay8 (View.ld x0 r0_0) (View.ld x7 r0_1) (View.ld x8 r0_2) (View.ld x6 r0_3) (View.ld x1 r0_4)⟩]

/-- Its stores tile the buffer (checked by evaluation), so they cover it. -/
theorem cover0_9 (p0 : Vec F S256x1024 .bf16) (y : S256x1024.Idx) :
    ∃ pc ∈ ([⟨r0_0, p0⟩] : List (View.Piece (Elt F) S256x1024 .bf16)), y ∈ pc.1.set :=
  View.cover_of_tiled [⟨r0_0, p0⟩] S256x1024.size (by rfl) y

/-- Window 10's staging buffer after the body, from the input windows' blocks: its 1 store as pieces, LAST
    FIRST (Lib/Pipeline/FrameBody.lean `View.canon`; the payloads are the skeleton's and the values stated above). -/
def out0_10 (x0 : Vec F S256x1024 .f32) (x1 : Vec F S1024x1024 .f32) (x2 : Vec F S1024x1024 .f32) (x3 : Vec F S1024x1024 .f32) (x4 : Vec F S1024x32 .f32) (x5 : Vec F S1x32 .f32) (x6 : Vec F S256x1 .f32) (x7 : Vec F S1024x16 .f32) (x8 : Vec F S16x1024 .f32) : Vec F S256x1024 .bf16 :=
  View.canon [⟨r0_0, k0_pay9 (View.ld x0 r0_0) (View.ld x7 r0_1) (View.ld x8 r0_2) (View.ld x2 r0_4)⟩]

/-- Its stores tile the buffer (checked by evaluation), so they cover it. -/
theorem cover0_10 (p0 : Vec F S256x1024 .bf16) (y : S256x1024.Idx) :
    ∃ pc ∈ ([⟨r0_0, p0⟩] : List (View.Piece (Elt F) S256x1024 .bf16)), y ∈ pc.1.set :=
  View.cover_of_tiled [⟨r0_0, p0⟩] S256x1024.size (by rfl) y

/-- Window 11's staging buffer after the body, from the input windows' blocks: its 1 store as pieces, LAST
    FIRST (Lib/Pipeline/FrameBody.lean `View.canon`; the payloads are the skeleton's and the values stated above). -/
def out0_11 (x0 : Vec F S256x1024 .f32) (x1 : Vec F S1024x1024 .f32) (x2 : Vec F S1024x1024 .f32) (x3 : Vec F S1024x1024 .f32) (x4 : Vec F S1024x32 .f32) (x5 : Vec F S1x32 .f32) (x6 : Vec F S256x1 .f32) (x7 : Vec F S1024x16 .f32) (x8 : Vec F S16x1024 .f32) : Vec F S256x1024 .f32 :=
  View.canon [⟨r0_0, k0_pay4 (k0_pay10 x0 x1 x2 x3 x4 x5 x6 x7 x8) (View.ld x3 r0_4)⟩]

/-- Its stores tile the buffer (checked by evaluation), so they cover it. -/
theorem cover0_11 (p0 : Vec F S256x1024 .f32) (y : S256x1024.Idx) :
    ∃ pc ∈ ([⟨r0_0, p0⟩] : List (View.Piece (Elt F) S256x1024 .f32)), y ∈ pc.1.set :=
  View.cover_of_tiled [⟨r0_0, p0⟩] S256x1024.size (by rfl) y

/-- Window 12's staging buffer after the body, from the input windows' blocks: its 1 store as pieces, LAST
    FIRST (Lib/Pipeline/FrameBody.lean `View.canon`; the payloads are the skeleton's and the values stated above). -/
def out0_12 (x0 : Vec F S256x1024 .f32) (x1 : Vec F S1024x1024 .f32) (x2 : Vec F S1024x1024 .f32) (x3 : Vec F S1024x1024 .f32) (x4 : Vec F S1024x32 .f32) (x5 : Vec F S1x32 .f32) (x6 : Vec F S256x1 .f32) (x7 : Vec F S1024x16 .f32) (x8 : Vec F S16x1024 .f32) : Vec F S256x1024 .f32 :=
  View.canon [⟨r0_0, k0_pay2 (k0_pay10 x0 x1 x2 x3 x4 x5 x6 x7 x8) (k0_pay11 x0 x1 x2 x3 x4 x5 x6 x7 x8) (k0_pay12 x0 x1 x2 x3 x4 x5 x6 x7 x8) (View.ld x4 r0_5) (View.ld x5 r0_6)⟩]

/-- Its stores tile the buffer (checked by evaluation), so they cover it. -/
theorem cover0_12 (p0 : Vec F S256x1024 .f32) (y : S256x1024.Idx) :
    ∃ pc ∈ ([⟨r0_0, p0⟩] : List (View.Piece (Elt F) S256x1024 .f32)), y ∈ pc.1.set :=
  View.cover_of_tiled [⟨r0_0, p0⟩] S256x1024.size (by rfl) y

/-- Window 13's staging buffer after the body, from the input windows' blocks: its 1 store as pieces, LAST
    FIRST (Lib/Pipeline/FrameBody.lean `View.canon`; the payloads are the skeleton's and the values stated above). -/
def out0_13 (x0 : Vec F S256x1024 .f32) (x1 : Vec F S1024x1024 .f32) (x2 : Vec F S1024x1024 .f32) (x3 : Vec F S1024x1024 .f32) (x4 : Vec F S1024x32 .f32) (x5 : Vec F S1x32 .f32) (x6 : Vec F S256x1 .f32) (x7 : Vec F S1024x16 .f32) (x8 : Vec F S16x1024 .f32) : Vec F S256x1024 .f32 :=
  View.canon [⟨r0_0, k0_pay3 (k0_pay10 x0 x1 x2 x3 x4 x5 x6 x7 x8) (k0_pay11 x0 x1 x2 x3 x4 x5 x6 x7 x8) (k0_pay12 x0 x1 x2 x3 x4 x5 x6 x7 x8) (View.ld x4 r0_5) (View.ld x5 r0_6)⟩]

/-- Its stores tile the buffer (checked by evaluation), so they cover it. -/
theorem cover0_13 (p0 : Vec F S256x1024 .f32) (y : S256x1024.Idx) :
    ∃ pc ∈ ([⟨r0_0, p0⟩] : List (View.Piece (Elt F) S256x1024 .f32)), y ∈ pc.1.set :=
  View.cover_of_tiled [⟨r0_0, p0⟩] S256x1024.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel0 (c : Dev nD) (E : Set ℕ) (i : grid0.Coords) (arg1 : Memref sig .tc .vmem S256x1024 .f32) (harg1 : arg1.IsWhole) (arg2 : Memref sig .tc .vmem S1024x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x32 .f32) (harg5 : arg5.IsWhole) (arg6 : Memref sig .tc .vmem S1x32 .f32) (harg6 : arg6.IsWhole) (arg7 : Memref sig .tc .vmem S256x1 .f32) (harg7 : arg7.IsWhole) (arg8 : Memref sig .tc .vmem S1024x16 .f32) (harg8 : arg8.IsWhole) (arg9 : Memref sig .tc .vmem S16x1024 .f32) (harg9 : arg9.IsWhole) (arg10 : Memref sig .tc .vmem S256x1024 .bf16) (harg10 : arg10.IsWhole) (arg11 : Memref sig .tc .vmem S256x1024 .bf16) (harg11 : arg11.IsWhole) (arg12 : Memref sig .tc .vmem S256x1024 .f32) (harg12 : arg12.IsWhole) (arg13 : Memref sig .tc .vmem S256x1024 .f32) (harg13 : arg13.IsWhole) (arg14 : Memref sig .tc .vmem S256x1024 .f32) (harg14 : arg14.IsWhole)
    (x0 : Vec F S256x1024 .f32) (x1 : Vec F S1024x1024 .f32) (x2 : Vec F S1024x1024 .f32) (x3 : Vec F S1024x1024 .f32) (x4 : Vec F S1024x32 .f32) (x5 : Vec F S1x32 .f32) (x6 : Vec F S256x1 .f32) (x7 : Vec F S1024x16 .f32) (x8 : Vec F S16x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out0_9 x0 x1 x2 x3 x4 x5 x6 x7 x8) ∗ owns (c : Thread nD τ) arg11 fullShare (out0_10 x0 x1 x2 x3 x4 x5 x6 x7 x8) ∗ owns (c : Thread nD τ) arg12 fullShare (out0_11 x0 x1 x2 x3 x4 x5 x6 x7 x8) ∗ owns (c : Thread nD τ) arg13 fullShare (out0_12 x0 x1 x2 x3 x4 x5 x6 x7 x8) ∗ owns (c : Thread nD τ) arg14 fullShare (out0_13 x0 x1 x2 x3 x4 x5 x6 x7 x8)) -∗ K ⟨⟩))
      ⊢ wp frame (wpE (defs₀ (F := F)) Variants.none c none) E (cc0_gdn_proj i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0_gdn_proj_eq_skeleton]; unfold cc0_gdn_proj_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    refine (View.read_writes_eq_canon _ _ _ (cover0_9 _)).trans ?_
    rfl
  isplitl [H10]
  · iexists _; isplitr
    swap; · iexact H10
    ipureintro
    refine (View.read_writes_eq_canon _ _ _ (cover0_10 _)).trans ?_
    rfl
  isplitl [H11]
  · iexists _; isplitr
    swap; · iexact H11
    ipureintro
    refine (View.read_writes_eq_canon _ _ _ (cover0_11 _)).trans ?_
    rfl
  isplitl [H12]
  · iexists _; isplitr
    swap; · iexact H12
    ipureintro
    refine (View.read_writes_eq_canon _ _ _ (cover0_12 _)).trans ?_
    rfl
  iexists _; isplitr
  swap; · iexact H13
  ipureintro
  refine (View.read_writes_eq_canon _ _ _ (cover0_13 _)).trans ?_
  rfl

/-! ## The pipeline's proof data -/

/-- The proof data of pipeline 0 on core `c`: the arrays as the region finds them (`V`); after the body at
    point `t` each input's buffer at its block and each output's at `out0_W` of the input blocks; the invariant the
    class's (Lib/Pipeline/Frame.lean `ΦA`: the scoped rest and the generator register, untouched); nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => out0_9 (iblk0 V c 0 t) (iblk0 V c 1 t) (iblk0 V c 2 t) (iblk0 V c 3 t) (iblk0 V c 4 t) (iblk0 V c 5 t) (iblk0 V c 6 t) (iblk0 V c 7 t) (iblk0 V c 8 t)
    | ⟨10, _⟩ => out0_10 (iblk0 V c 0 t) (iblk0 V c 1 t) (iblk0 V c 2 t) (iblk0 V c 3 t) (iblk0 V c 4 t) (iblk0 V c 5 t) (iblk0 V c 6 t) (iblk0 V c 7 t) (iblk0 V c 8 t)
    | ⟨11, _⟩ => out0_11 (iblk0 V c 0 t) (iblk0 V c 1 t) (iblk0 V c 2 t) (iblk0 V c 3 t) (iblk0 V c 4 t) (iblk0 V c 5 t) (iblk0 V c 6 t) (iblk0 V c 7 t) (iblk0 V c 8 t)
    | ⟨12, _⟩ => out0_12 (iblk0 V c 0 t) (iblk0 V c 1 t) (iblk0 V c 2 t) (iblk0 V c 3 t) (iblk0 V c 4 t) (iblk0 V c 5 t) (iblk0 V c 6 t) (iblk0 V c 7 t) (iblk0 V c 8 t)
    | ⟨13, _⟩ => out0_13 (iblk0 V c 0 t) (iblk0 V c 1 t) (iblk0 V c 2 t) (iblk0 V c 3 t) (iblk0 V c 4 t) (iblk0 V c 5 t) (iblk0 V c 6 t) (iblk0 V c 7 t) (iblk0 V c 8 t)
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`, never `rfl`: Lib/Pipeline.lean `Dat`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = out0_9 (iblk0 V c 0 t) (iblk0 V c 1 t) (iblk0 V c 2 t) (iblk0 V c 3 t) (iblk0 V c 4 t) (iblk0 V c 5 t) (iblk0 V c 6 t) (iblk0 V c 7 t) (iblk0 V c 8 t) := by dsimp only [dat0]
theorem after0_10 (c : Dev nD) (t : Fin cfg0.N) : (dat0 V c).after 10 t = out0_10 (iblk0 V c 0 t) (iblk0 V c 1 t) (iblk0 V c 2 t) (iblk0 V c 3 t) (iblk0 V c 4 t) (iblk0 V c 5 t) (iblk0 V c 6 t) (iblk0 V c 7 t) (iblk0 V c 8 t) := by dsimp only [dat0]
theorem after0_11 (c : Dev nD) (t : Fin cfg0.N) : (dat0 V c).after 11 t = out0_11 (iblk0 V c 0 t) (iblk0 V c 1 t) (iblk0 V c 2 t) (iblk0 V c 3 t) (iblk0 V c 4 t) (iblk0 V c 5 t) (iblk0 V c 6 t) (iblk0 V c 7 t) (iblk0 V c 8 t) := by dsimp only [dat0]
theorem after0_12 (c : Dev nD) (t : Fin cfg0.N) : (dat0 V c).after 12 t = out0_12 (iblk0 V c 0 t) (iblk0 V c 1 t) (iblk0 V c 2 t) (iblk0 V c 3 t) (iblk0 V c 4 t) (iblk0 V c 5 t) (iblk0 V c 6 t) (iblk0 V c 7 t) (iblk0 V c 8 t) := by dsimp only [dat0]
theorem after0_13 (c : Dev nD) (t : Fin cfg0.N) : (dat0 V c).after 13 t = out0_13 (iblk0 V c 0 t) (iblk0 V c 1 t) (iblk0 V c 2 t) (iblk0 V c 3 t) (iblk0 V c 4 t) (iblk0 V c 5 t) (iblk0 V c 6 t) (iblk0 V c 7 t) (iblk0 V c 8 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d))
    ∗ (∃ d, owns (c : Thread nD τ) (st0_12 t) fullShare ((dat0 V c).before 12 t d))
    ∗ (∃ d, owns (c : Thread nD τ) (st0_13 t) fullShare ((dat0 V c).before 13 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t)
    ∗ owns (c : Thread nD τ) (st0_12 t) fullShare ((dat0 V c).after 12 t)
    ∗ owns (c : Thread nD τ) (st0_13 t) fullShare ((dat0 V c).after 13 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11, after0_12, after0_13]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (sound_kernel0 c Set.univ (grid0.coords t) _ _ _ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  isplitl [H13]; · iexists _; iexact H13
  iintro ⟨H0, H1, H2, H3, H4, H5, H6, H7, H8, H9, H10, H11, H12, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Regions

end Cert.KernelIdeal.Hand

end
-- ==== Proof.KernelIdeal.ScanTile.lean ====
module

public import proofs.«01_k».proof.Proof.Gen.KernelIdeal.Skeleton
public import Idealize.ShloMosaic.Lib.Pipeline.FrameBody
public import Idealize.ShloMosaic.Lib.Tactic

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! # One token of the scan, tile by tile

A tile is 128 lanes (two heads) of one batch entry's state: 64 rows by 128 lanes. -/

theorem tileRow_slices (j : Fin 8) : S16x64.Slices ![2 * j.val, 0] S2x64 := by revert j; decide
theorem tileSeg_slices (j : Fin 8) : S16x1024.Slices ![2 * j.val, 128 * j.val] S2x128 := by revert j; decide
theorem tileLane_slices (j : Fin 8) : S1x1024.Slices ![0, 128 * j.val] S1x128 := by revert j; decide
theorem tile_inb (b : Fin 2) (j : Fin 8) :
    ∀ a, (![b.val, 0, 128 * j.val] : Fin 3 → ℕ) a + S1x64x128.size a ≤ S2x64x1024.size a := by
  revert b j; decide

/-- Tile `j` of batch entry `b` in the state. -/
abbrev tileRect (b : Fin 2) (j : Fin 8) : Rect S2x64x1024 :=
  Rect.unit (s := S2x64x1024) ![b.val, 0, 128 * j.val] S1x64x128.size (tile_inb b j)

/-- A row of keys (or queries) spread over a tile's lanes by the head indicator. -/
def spread (j : Fin 8) (sg : FVec F S16x1024 .bf16) (x : FVec F S16x64 .bf16) : FVec F S64x128 .f32 :=
  matmul dot_S2x64_S2x128_S64x128_0_0_1_1_n_n none
    (extractStridedSlice S2x64 ![2 * j.val, 0] x (tileRow_slices j))
    (extractStridedSlice S2x128 ![2 * j.val, 128 * j.val] sg (tileSeg_slices j))
    (constant S64x128 .f32 0x00000000#32)

/-- The lanes of a row a tile covers. -/
def lanes (j : Fin 8) (x : FVec F S1x1024 .f32) : FVec F S1x128 .f32 :=
  extractStridedSlice S1x128 ![0, 128 * j.val] x (tileLane_slices j)

/-- The sum of a tile's rows. -/
def rowSum (x : FVec F S64x128 .f32) : FVec F S1x128 .f32 :=
  shapeCast S1x128 (multiReduction .add [0] S128 x 0x00000000#32 reduces_S64x128_S128 (.inl rfl) rfl) shapeCasts_S128_S1x128

/-- A tile after the token, from its spread keys, its lanes of value, decay and gain, and the tile before. -/
def tileCore (kb : FVec F S64x128 .f32) (v a b : FVec F S1x128 .f32) (st : FVec F S64x128 .f32) : FVec F S64x128 .f32 :=
  minimumf
    (maximumf
      (addf (mulf (broadcastTo S64x128 a broadcasts_S1x128_S64x128) st)
        (mulf (broadcastTo S64x128 (mulf (subf v (rowSum (mulf st kb))) b) broadcasts_S1x128_S64x128) kb))
      (broadcast S64x128 (Scalar.ofBits .f32 0xC0A00000#32)))
    (broadcast S64x128 (Scalar.ofBits .f32 0x40A00000#32))

/-- The five rows one token reads of one batch entry: keys, queries, values, decays, gains. -/
structure Rows (F : FTy → Type) where
  k : Vec F S1x1x16x64 .bf16
  q : Vec F S1x1x16x64 .bf16
  v : Vec F S1x1x1024 .f32
  a : Vec F S1x1x1024 .f32
  b : Vec F S1x1x1024 .f32

/-- Tile `j` after the token. -/
def tileNew (j : Fin 8) (sg : FVec F S16x1024 .bf16) (r : Rows F) (st : Vec F S1x64x128 .f32) : FVec F S64x128 .f32 :=
  tileCore (spread j sg (shapeCast S16x64 r.k shapeCasts_S1x1x16x64_S16x64))
    (lanes j (shapeCast S1x1024 r.v shapeCasts_S1x1x1024_S1x1024))
    (lanes j (shapeCast S1x1024 r.a shapeCasts_S1x1x1024_S1x1024))
    (lanes j (shapeCast S1x1024 r.b shapeCasts_S1x1x1024_S1x1024))
    (shapeCast S64x128 st shapeCasts_S1x64x128_S64x128)

/-- What a tile adds to the token's output row. -/
def tileOut (j : Fin 8) (sg : FVec F S16x1024 .bf16) (r : Rows F) (st : Vec F S1x64x128 .f32) : FVec F S1x128 .f32 :=
  rowSum (mulf (tileNew j sg r st) (spread j sg (shapeCast S16x64 r.q shapeCasts_S1x1x16x64_S16x64)))

/-- Batch entry `b`'s tile `j` of the state `S`. -/
def tileOf (S : Vec F S2x64x1024 .f32) (b : Fin 2) (j : Fin 8) : Vec F S1x64x128 .f32 := View.ld S (tileRect b j)

/-- The head indicator as the body reads it. -/
def segOf (sg : Vec F S16x1024 .bf16) : FVec F S16x1024 .bf16 := shapeCast S16x1024 sg shapeCasts_S16x1024_S16x1024

/-- The piece of the new state at batch entry `b`, tile `j`. -/
def piece (sg : Vec F S16x1024 .bf16) (r : Fin 2 → Rows F) (S : Vec F S2x64x1024 .f32) (b : Fin 2) (j : Fin 8) :
    View.Piece (Elt F) S2x64x1024 .f32 :=
  ⟨tileRect b j, shapeCast S1x64x128 (tileNew j (segOf sg) (r b) (tileOf S b j)) shapeCasts_S64x128_S1x64x128⟩

/-- The pieces one token writes, last first. -/
def pieces (sg : Vec F S16x1024 .bf16) (r : Fin 2 → Rows F) (S : Vec F S2x64x1024 .f32) :
    List (View.Piece (Elt F) S2x64x1024 .f32) :=
  [piece sg r S 1 7, piece sg r S 1 6, piece sg r S 1 5, piece sg r S 1 4, piece sg r S 1 3, piece sg r S 1 2,
   piece sg r S 1 1, piece sg r S 1 0, piece sg r S 0 7, piece sg r S 0 6, piece sg r S 0 5, piece sg r S 0 4,
   piece sg r S 0 3, piece sg r S 0 2, piece sg r S 0 1, piece sg r S 0 0]

theorem pieces_cover (sg : Vec F S16x1024 .bf16) (r : Fin 2 → Rows F) (S : Vec F S2x64x1024 .f32) (y : S2x64x1024.Idx) :
    ∃ pc ∈ pieces sg r S, y ∈ pc.1.set :=
  View.cover_of_tiled (pieces sg r S) S1x64x128.size (by rfl) y

/-- The state after one token. -/
def stepState (sg : Vec F S16x1024 .bf16) (r : Fin 2 → Rows F) (S : Vec F S2x64x1024 .f32) : Vec F S2x64x1024 .f32 :=
  View.canon (pieces sg r S)

/-- One token's output row of batch entry `b`. -/
def outRow (sg : Vec F S16x1024 .bf16) (r : Rows F) (st : Fin 8 → Vec F S1x64x128 .f32) : FVec F S1x1x1024 .f32 :=
  shapeCast S1x1x1024
    (concatenate S1x1024 1
      [⟨S1x128, tileOut 0 (segOf sg) r (st 0)⟩, ⟨S1x128, tileOut 1 (segOf sg) r (st 1)⟩,
       ⟨S1x128, tileOut 2 (segOf sg) r (st 2)⟩, ⟨S1x128, tileOut 3 (segOf sg) r (st 3)⟩,
       ⟨S1x128, tileOut 4 (segOf sg) r (st 4)⟩, ⟨S1x128, tileOut 5 (segOf sg) r (st 5)⟩,
       ⟨S1x128, tileOut 6 (segOf sg) r (st 6)⟩, ⟨S1x128, tileOut 7 (segOf sg) r (st 7)⟩]
      concatenates_S1x128_S1x128_S1x128_S1x128_S1x128_S1x128_S1x128_S1x128_S1x1024_d1)
    shapeCasts_S1x1024_S1x1x1024

/-! ## The rows of a token in the blocks -/

/-- The five blocks a grid point reads token rows from. -/
structure Blocks (F : FTy → Type) where
  k : Vec F S2x128x16x64 .bf16
  q : Vec F S2x128x16x64 .bf16
  v : Vec F S2x128x1024 .f32
  a : Vec F S2x128x1024 .f32
  b : Vec F S2x128x1024 .f32

/-- Token `t`'s rows, per batch entry. -/
def rowsAt (x : Blocks F) (t : Fin k1_t1_loop.trips) : Fin 2 → Rows F
  | 0 => ⟨View.ld x.k (Rect.unit (s := S2x128x16x64) (k1_off1 t) S1x1x16x64.size (k1_off1_inb t)),
          View.ld x.q (Rect.unit (s := S2x128x16x64) (k1_off1 t) S1x1x16x64.size (k1_off1_inb t)),
          View.ld x.v (Rect.unit (s := S2x128x1024) (k1_off2 t) S1x1x1024.size (k1_off2_inb t)),
          View.ld x.a (Rect.unit (s := S2x128x1024) (k1_off2 t) S1x1x1024.size (k1_off2_inb t)),
          View.ld x.b (Rect.unit (s := S2x128x1024) (k1_off2 t) S1x1x1024.size (k1_off2_inb t))⟩
  | 1 => ⟨View.ld x.k (Rect.unit (s := S2x128x16x64) (k1_off3 t) S1x1x16x64.size (k1_off3_inb t)),
          View.ld x.q (Rect.unit (s := S2x128x16x64) (k1_off3 t) S1x1x16x64.size (k1_off3_inb t)),
          View.ld x.v (Rect.unit (s := S2x128x1024) (k1_off4 t) S1x1x1024.size (k1_off4_inb t)),
          View.ld x.a (Rect.unit (s := S2x128x1024) (k1_off4 t) S1x1x1024.size (k1_off4_inb t)),
          View.ld x.b (Rect.unit (s := S2x128x1024) (k1_off4 t) S1x1x1024.size (k1_off4_inb t))⟩

/-- The two output rows token `t` stores, last first. -/
def outPieces (sg : Vec F S16x1024 .bf16) (x : Blocks F) (t : Fin k1_t1_loop.trips) (S : Vec F S2x64x1024 .f32) :
    List (View.Piece (Elt F) S2x128x1024 .f32) :=
  [⟨Rect.unit (s := S2x128x1024) (k1_off4 t) S1x1x1024.size (k1_off4_inb t), outRow sg (rowsAt x t 1) (tileOf S 1)⟩,
   ⟨Rect.unit (s := S2x128x1024) (k1_off2 t) S1x1x1024.size (k1_off2_inb t), outRow sg (rowsAt x t 0) (tileOf S 0)⟩]

/-- The state before token `n` of the block. -/
def stateAt (sg : Vec F S16x1024 .bf16) (x : Blocks F) (S : Vec F S2x64x1024 .f32) : ℕ → Vec F S2x64x1024 .f32
  | 0 => S
  | n + 1 => if h : n < k1_t1_loop.trips then stepState sg (rowsAt x ⟨n, h⟩) (stateAt sg x S n) else stateAt sg x S n

theorem stateAt_succ (sg : Vec F S16x1024 .bf16) (x : Blocks F) (S : Vec F S2x64x1024 .f32) (t : Fin k1_t1_loop.trips) :
    stateAt sg x S (t.val + 1) = stepState sg (rowsAt x t) (stateAt sg x S t.val) := by
  rw [stateAt, dif_pos t.isLt]

/-- The output rows the tokens before `n` store, last first. -/
def outAt (sg : Vec F S16x1024 .bf16) (x : Blocks F) (S : Vec F S2x64x1024 .f32) : ℕ → List (View.Piece (Elt F) S2x128x1024 .f32)
  | 0 => []
  | n + 1 => if h : n < k1_t1_loop.trips then outPieces sg x ⟨n, h⟩ (stateAt sg x S n) ++ outAt sg x S n else outAt sg x S n

theorem outAt_succ (sg : Vec F S16x1024 .bf16) (x : Blocks F) (S : Vec F S2x64x1024 .f32) (t : Fin k1_t1_loop.trips) :
    outAt sg x S (t.val + 1) = outPieces sg x t (stateAt sg x S t.val) ++ outAt sg x S t.val := by
  rw [outAt, dif_pos t.isLt]

/-! ## The block of output rows -/

/-- Every row of the tokens before `n` is stored. -/
theorem outAt_cover (sg : Vec F S16x1024 .bf16) (x : Blocks F) (S : Vec F S2x64x1024 .f32) (y : S2x128x1024.Idx) :
    ∀ n, n ≤ 128 → (y 1).val < n → ∃ pc ∈ outAt sg x S n, y ∈ pc.1.set
  | 0, _, h => absurd h (Nat.not_lt_zero _)
  | n + 1, hn, h => by
    have hlt : n < k1_t1_loop.trips := Nat.lt_of_lt_of_le hn (by decide)
    rw [outAt_succ sg x S ⟨n, hlt⟩]
    rcases Nat.lt_succ_iff_lt_or_eq.mp h with h' | h'
    · obtain ⟨pc, hpc, hy⟩ := outAt_cover sg x S y n (Nat.le_of_succ_le hn) h'
      exact ⟨pc, List.mem_append_right _ hpc, hy⟩
    · have h0 : (y 0).val < 2 := (y 0).isLt
      have h2 : (y 2).val < 1024 := (y 2).isLt
      rcases Nat.lt_succ_iff_lt_or_eq.mp h0 with hb | hb
      · refine ⟨_, List.mem_append_left _ (List.mem_cons_of_mem _ (List.mem_cons_self ..)), ?_⟩
        rw [Rect.mem_set_unit, k1_off2_eq]
        intro a
        fin_cases a
        · show 0 ≤ (y 0).val ∧ (y 0).val < 0 + 1; omega
        · show n ≤ (y 1).val ∧ (y 1).val < n + 1; omega
        · show 0 ≤ (y 2).val ∧ (y 2).val < 0 + 1024; omega
      · refine ⟨_, List.mem_append_left _ (List.mem_cons_self ..), ?_⟩
        rw [Rect.mem_set_unit, k1_off4_eq]
        intro a
        fin_cases a
        · show 1 ≤ (y 0).val ∧ (y 0).val < 1 + 1; omega
        · show n ≤ (y 1).val ∧ (y 1).val < n + 1; omega
        · show 0 ≤ (y 2).val ∧ (y 2).val < 0 + 1024; omega

/-- The block of output rows a grid point leaves. -/
def outBlock (sg : Vec F S16x1024 .bf16) (x : Blocks F) (S : Vec F S2x64x1024 .f32) : Vec F S2x128x1024 .f32 :=
  View.canon (outAt sg x S k1_t1_loop.trips)

theorem outAt_cover_all (sg : Vec F S16x1024 .bf16) (x : Blocks F) (S : Vec F S2x64x1024 .f32) (y : S2x128x1024.Idx) :
    ∃ pc ∈ outAt sg x S k1_t1_loop.trips, y ∈ pc.1.set :=
  outAt_cover sg x S y _ (by decide) (Nat.lt_of_lt_of_le (y 1).isLt (by decide))

end Cert.KernelIdeal.Hand

end
-- ==== Proof.KernelIdeal.ScanTrip.lean ====
module

public import proofs.«01_k».proof.Proof.KernelIdeal.ScanTile
public import proofs.«01_k».proof.Proof.Gen.KernelIdeal.Loops
public import Idealize.ShloMosaic.Lib.Pipeline.Kit

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem tile_congr (b : Fin 2) (j : Fin 8) {p p' : (tileRect b j).shape.Idx → Elt F .f32}
    {L L' : List (View.Piece (Elt F) S2x64x1024 .f32)} (hp : p = p') (hL : L = L') :
    (⟨tileRect b j, p⟩ : View.Piece (Elt F) S2x64x1024 .f32) :: L = ⟨tileRect b j, p'⟩ :: L' := by
  rw [hp, hL]

theorem rows_congr {r r' : Rect S2x128x1024} {p q : r.shape.Idx → Elt F .f32} {p' q' : r'.shape.Idx → Elt F .f32}
    (hp : p = q) (hp' : p' = q') :
    ([⟨r, p⟩, ⟨r', p'⟩] : List (View.Piece (Elt F) S2x128x1024 .f32)) = [⟨r, q⟩, ⟨r', q'⟩] := by
  rw [hp, hp']

/-- What one token of the loop owns: the blocks it reads and the two arrays it writes. -/
abbrev TripRes (c : Dev nD) (arg1 arg2 : Memref sig .tc .vmem S2x128x16x64 .bf16) (arg3 arg4 arg5 arg8 : Memref sig .tc .vmem S2x128x1024 .f32)
    (arg10 : Memref sig .tc .vmem S2x64x1024 .f32)
    (f1 : BufTy.Contents (Elt F) arg1.view.ty) (f2 : BufTy.Contents (Elt F) arg2.view.ty) (f3 : BufTy.Contents (Elt F) arg3.view.ty)
    (f4 : BufTy.Contents (Elt F) arg4.view.ty) (f5 : BufTy.Contents (Elt F) arg5.view.ty)
    (f8 : BufTy.Contents (Elt F) arg8.view.ty) (f10 : BufTy.Contents (Elt F) arg10.view.ty) : sProp 𝕄 :=
  iprop((arg1.view.loc (c : Thread nD τ) ↦[arg1.view.set]{fullShare} f1) ∗ (arg2.view.loc (c : Thread nD τ) ↦[arg2.view.set]{fullShare} f2)
    ∗ (arg3.view.loc (c : Thread nD τ) ↦[arg3.view.set]{fullShare} f3) ∗ (arg4.view.loc (c : Thread nD τ) ↦[arg4.view.set]{fullShare} f4)
    ∗ (arg5.view.loc (c : Thread nD τ) ↦[arg5.view.set]{fullShare} f5) ∗ (arg8.view.loc (c : Thread nD τ) ↦[arg8.view.set]{fullShare} f8)
    ∗ (arg10.view.loc (c : Thread nD τ) ↦[arg10.view.set]{fullShare} f10))

set_option maxHeartbeats 4000000 in
/-- One token of the loop: the state and the output block after it, in terms of the state before. -/
theorem trip_sound (𝒱 : Variants) (c : Dev nD) (bd : Option 𝒱.V) (E : Set ℕ) (i : grid1.Coords)
    (arg1 : Memref sig .tc .vmem S2x128x16x64 .bf16) (harg1 : arg1.IsWhole) (arg2 : Memref sig .tc .vmem S2x128x16x64 .bf16) (harg2 : arg2.IsWhole)
    (arg3 : Memref sig .tc .vmem S2x128x1024 .f32) (harg3 : arg3.IsWhole) (arg4 : Memref sig .tc .vmem S2x128x1024 .f32) (harg4 : arg4.IsWhole)
    (arg5 : Memref sig .tc .vmem S2x128x1024 .f32) (harg5 : arg5.IsWhole) (arg6 : Memref sig .tc .vmem S2x64x1024 .f32) (harg6 : arg6.IsWhole)
    (arg7 : Memref sig .tc .vmem S16x1024 .bf16) (harg7 : arg7.IsWhole) (arg8 : Memref sig .tc .vmem S2x128x1024 .f32) (harg8 : arg8.IsWhole)
    (arg9 : Memref sig .tc .vmem S2x64x1024 .f32) (harg9 : arg9.IsWhole) (arg10 : Memref sig .tc .vmem S2x64x1024 .f32) (harg10 : arg10.IsWhole)
    (v3 : Vec F S16x1024 .bf16)
    (f1 : BufTy.Contents (Elt F) arg1.view.ty) (f2 : BufTy.Contents (Elt F) arg2.view.ty) (f3 : BufTy.Contents (Elt F) arg3.view.ty)
    (f4 : BufTy.Contents (Elt F) arg4.view.ty) (f5 : BufTy.Contents (Elt F) arg5.view.ty)
    (k : Fin k1_t1_loop.trips) (f8 : BufTy.Contents (Elt F) arg8.view.ty) (f10 : BufTy.Contents (Elt F) arg10.view.ty) :
    TripRes (F := F) c arg1 arg2 arg3 arg4 arg5 arg8 arg10 f1 f2 f3 f4 f5 f8 f10
      ⊢ wp frame (wpE (defs₀ (F := F)) 𝒱 (c : Thread nD τ) bd) E (k1_t1_body (F := F) i arg1 harg1 arg2 harg2 arg3 harg3 arg4 harg4 arg5 harg5 arg6 harg6 arg7 harg7 arg8 harg8 arg9 harg9 arg10 harg10 v3 k PUnit.unit)
          (fun _ => iprop(∃ g8 g10, TripRes (F := F) c arg1 arg2 arg3 arg4 arg5 arg8 arg10 f1 f2 f3 f4 f5 g8 g10
            ∗ ⌜g8 = arg8.view.writes (Elt F) f8
              (outPieces v3 ⟨arg1.view.read (Elt F) f1, arg2.view.read (Elt F) f2, arg3.view.read (Elt F) f3, arg4.view.read (Elt F) f4, arg5.view.read (Elt F) f5⟩ k
                (arg10.view.read (Elt F) f10))⌝
            ∗ ⌜arg10.view.read (Elt F) g10
                = stepState v3 (rowsAt ⟨arg1.view.read (Elt F) f1, arg2.view.read (Elt F) f2, arg3.view.read (Elt F) f3, arg4.view.read (Elt F) f4, arg5.view.read (Elt F) f5⟩ k)
                    (arg10.view.read (Elt F) f10)⌝)) := by
  have hk : k.val < 128 := Nat.lt_of_lt_of_le k.isLt k1_t1_abs.2.1
  unfold k1_t1_body
  iintro ⟨H1, H2, H3, H4, H5, H8, H10⟩
  sl_exec
  sl_step
  iexists _, _
  isplitl [H1 H2 H3 H4 H5 H8 H10]
  · isplitl [H1]; · iexact H1
    isplitl [H2]; · iexact H2
    isplitl [H3]; · iexact H3
    isplitl [H4]; · iexact H4
    isplitl [H5]; · iexact H5
    isplitl [H8]; · iexact H8
    iexact H10
  isplitl
  · ipureintro
    exact congrArg (arg8.view.writes (Elt F) f8) (rows_congr (by rfl) (by rfl))
  · ipureintro
    refine (View.read_writes_eq_canon _ _ _ ?_).trans ?_
    · exact View.cover_of_tiled _ S1x64x128.size (by rfl)
    refine congrArg View.canon ?_
    exact tile_congr 1 7 (by rfl) (tile_congr 1 6 (by rfl) (tile_congr 1 5 (by rfl) (tile_congr 1 4 (by rfl)
      (tile_congr 1 3 (by rfl) (tile_congr 1 2 (by rfl) (tile_congr 1 1 (by rfl) (tile_congr 1 0 (by rfl)
      (tile_congr 0 7 (by rfl) (tile_congr 0 6 (by rfl) (tile_congr 0 5 (by rfl) (tile_congr 0 4 (by rfl)
      (tile_congr 0 3 (by rfl) (tile_congr 0 2 (by rfl) (tile_congr 0 1 (by rfl) (tile_congr 0 0 (by rfl) rfl)))))))))))))))

end Cert.KernelIdeal.Hand

end
-- ==== Proof.KernelIdeal.ScanLoop.lean ====
module

public import proofs.«01_k».proof.Proof.KernelIdeal.ScanTrip
public import Idealize.ShloMosaic.Lib.WritesUnit

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The blocks five buffers hold. -/
abbrev blocksOf (arg1 arg2 : Memref sig .tc .vmem S2x128x16x64 .bf16) (arg3 arg4 arg5 : Memref sig .tc .vmem S2x128x1024 .f32)
    (f1 : BufTy.Contents (Elt F) arg1.view.ty) (f2 : BufTy.Contents (Elt F) arg2.view.ty) (f3 : BufTy.Contents (Elt F) arg3.view.ty)
    (f4 : BufTy.Contents (Elt F) arg4.view.ty) (f5 : BufTy.Contents (Elt F) arg5.view.ty) : Blocks F :=
  ⟨arg1.view.read (Elt F) f1, arg2.view.read (Elt F) f2, arg3.view.read (Elt F) f3, arg4.view.read (Elt F) f4, arg5.view.read (Elt F) f5⟩

/-- The loop before token `k`: the output rows of the tokens before, and the state they left. -/
abbrev scanInv (c : Dev nD) (arg1 arg2 : Memref sig .tc .vmem S2x128x16x64 .bf16) (arg3 arg4 arg5 : Memref sig .tc .vmem S2x128x1024 .f32)
    (arg8 : Memref sig .tc .vmem S2x128x1024 .f32) (arg10 : Memref sig .tc .vmem S2x64x1024 .f32) (v3 : Vec F S16x1024 .bf16)
    (f1 : BufTy.Contents (Elt F) arg1.view.ty) (f2 : BufTy.Contents (Elt F) arg2.view.ty) (f3 : BufTy.Contents (Elt F) arg3.view.ty)
    (f4 : BufTy.Contents (Elt F) arg4.view.ty) (f5 : BufTy.Contents (Elt F) arg5.view.ty)
    (g8 : BufTy.Contents (Elt F) arg8.view.ty) (g10 : BufTy.Contents (Elt F) arg10.view.ty) (k : ℕ) (_u : PUnit) : sProp 𝕄 :=
  iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5)
    ∗ (∃ f, (arg8.view.loc (c : Thread nD τ) ↦[arg8.view.set]{fullShare} f)
        ∗ ⌜f = arg8.view.writes (Elt F) g8 (outAt v3 (blocksOf arg1 arg2 arg3 arg4 arg5 f1 f2 f3 f4 f5) (arg10.view.read (Elt F) g10) k)⌝)
    ∗ (∃ f, (arg10.view.loc (c : Thread nD τ) ↦[arg10.view.set]{fullShare} f)
        ∗ ⌜arg10.view.read (Elt F) f = stateAt v3 (blocksOf arg1 arg2 arg3 arg4 arg5 f1 f2 f3 f4 f5) (arg10.view.read (Elt F) g10) k⌝))

set_option warn.classDefReducibility false in
/-- The loop over the block's tokens, by `scanInv`. -/
@[sl_loop] def scanLoop (𝒱 : Variants) (c : Dev nD) (bd : Option 𝒱.V) (E : Set ℕ) (i : grid1.Coords)
    (arg1 : Memref sig .tc .vmem S2x128x16x64 .bf16) (harg1 : arg1.IsWhole)
    (arg2 : Memref sig .tc .vmem S2x128x16x64 .bf16) (harg2 : arg2.IsWhole)
    (arg3 : Memref sig .tc .vmem S2x128x1024 .f32) (harg3 : arg3.IsWhole)
    (arg4 : Memref sig .tc .vmem S2x128x1024 .f32) (harg4 : arg4.IsWhole)
    (arg5 : Memref sig .tc .vmem S2x128x1024 .f32) (harg5 : arg5.IsWhole)
    (arg6 : Memref sig .tc .vmem S2x64x1024 .f32) (harg6 : arg6.IsWhole)
    (arg7 : Memref sig .tc .vmem S16x1024 .bf16) (harg7 : arg7.IsWhole)
    (arg8 : Memref sig .tc .vmem S2x128x1024 .f32) (harg8 : arg8.IsWhole)
    (arg9 : Memref sig .tc .vmem S2x64x1024 .f32) (harg9 : arg9.IsWhole)
    (arg10 : Memref sig .tc .vmem S2x64x1024 .f32) (harg10 : arg10.IsWhole)
    (v3 : Vec F S16x1024 .bf16)
    (f1 : BufTy.Contents (Elt F) arg1.view.ty) (f2 : BufTy.Contents (Elt F) arg2.view.ty) (f3 : BufTy.Contents (Elt F) arg3.view.ty)
    (f4 : BufTy.Contents (Elt F) arg4.view.ty) (f5 : BufTy.Contents (Elt F) arg5.view.ty)
    (g8 : BufTy.Contents (Elt F) arg8.view.ty) (g10 : BufTy.Contents (Elt F) arg10.view.ty) :
    LoopInvTy_k1_t1 (F := F) Unit ℕ (UR sig nD τ) ℕ 𝒱 c bd E i arg1 harg1 arg2 harg2 arg3 harg3 arg4 harg4 arg5 harg5 arg6 harg6 arg7 harg7 arg8 harg8 arg9 harg9 arg10 harg10 v3 where
  inv := scanInv (F := F) c arg1 arg2 arg3 arg4 arg5 arg8 arg10 v3 f1 f2 f3 f4 f5 g8 g10
  step k acc := by
    iintro ⟨H1, H2, H3, H4, H5, ⟨%f8, H8, %h8⟩, ⟨%f10, H10, %h10⟩⟩
    iapply (wp_wand_r Idealize.ShloMosaic.frame (wpE (defs₀ (F := F)) 𝒱 (c : Thread nD τ) bd) E)
    isplitl [H1 H2 H3 H4 H5 H8 H10]
    · iapply (trip_sound (F := F) 𝒱 c bd E i arg1 harg1 arg2 harg2 arg3 harg3 arg4 harg4 arg5 harg5 arg6 harg6 arg7 harg7 arg8 harg8 arg9 harg9 arg10 harg10 v3 f1 f2 f3 f4 f5 k f8 f10)
      isplitl [H1]; · iexact H1
      isplitl [H2]; · iexact H2
      isplitl [H3]; · iexact H3
      isplitl [H4]; · iexact H4
      isplitl [H5]; · iexact H5
      isplitl [H8]; · iexact H8
      iexact H10
    · iintro %_ ⟨%p8, %p10, ⟨H1, H2, H3, H4, H5, H8, H10⟩, %e8, %e10⟩
      isplitl [H1]; · iexact H1
      isplitl [H2]; · iexact H2
      isplitl [H3]; · iexact H3
      isplitl [H4]; · iexact H4
      isplitl [H5]; · iexact H5
      rw [outAt_succ, stateAt_succ]
      isplitl [H8]
      · iexists _; isplitl [H8]; · iexact H8
        ipureintro; rw [e8, h8, h10, ← View.writes_append]
      iexists _; isplitl [H10]; · iexact H10
      ipureintro; rw [e10, h10]

/-- A load of a whole buffer reads what it holds. -/
theorem ld_all {S : Shape} {e : EltTy} (X : S.Idx → Elt F e) (off : Fin S.rank → ℕ) (h : ∀ a, off a = 0) (inb) :
    View.ld X (Rect.unit (s := S) off S.size inb) = X := by
  funext x
  refine congrArg X (funext fun a => Fin.ext ?_)
  show off a + 1 * (x a).val = (x a).val
  rw [h a]; omega

/-- A store of a whole buffer leaves what it stored. -/
theorem read_write_all {s : Shape} {e : EltTy} {sp : Space} (v : View sig .tc sp s e) (f : v.ty.Contents (Elt F)) (off : Fin s.rank → ℕ)
    (h : ∀ a, off a = 0) (inb) (w : s.Idx → Elt F e) :
    v.read (Elt F) (v.writes (Elt F) f [⟨Rect.unit (s := s) off s.size inb, w⟩]) = w := by
  funext y
  exact View.read_writes_cons_unit_of_mem v f inb w [] y y rfl (fun a => by rw [h a, Nat.zero_add])

/-- The conditional's scalar test at a grid point: whether it is the first. -/
abbrev isFirst (i : grid1.Coords) : Prop :=
  (Scalar.cmpi .ne (Scalar.extui (Scalar.cmpi .eq (BitVec.ofNat 32 (i 0).val) 0#32)) 0#32) = 1#1

end Cert.KernelIdeal.Hand

end
-- ==== Proof.KernelIdeal.ScanRun.lean ====
module

public import proofs.«01_k».proof.Proof.KernelIdeal.ScanLoop
public import Idealize.ShloMosaic.Lib.Pipeline.Value

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the first grid point: it starts from the state it is given. -/
theorem scan_first (c : Dev nD) (i : grid1.Coords)
    (arg1 : Memref sig .tc .vmem S2x128x16x64 .bf16) (harg1 : arg1.IsWhole)
    (arg2 : Memref sig .tc .vmem S2x128x16x64 .bf16) (harg2 : arg2.IsWhole)
    (arg3 : Memref sig .tc .vmem S2x128x1024 .f32) (harg3 : arg3.IsWhole)
    (arg4 : Memref sig .tc .vmem S2x128x1024 .f32) (harg4 : arg4.IsWhole)
    (arg5 : Memref sig .tc .vmem S2x128x1024 .f32) (harg5 : arg5.IsWhole)
    (arg6 : Memref sig .tc .vmem S2x64x1024 .f32) (harg6 : arg6.IsWhole)
    (arg7 : Memref sig .tc .vmem S16x1024 .bf16) (harg7 : arg7.IsWhole)
    (arg8 : Memref sig .tc .vmem S2x128x1024 .f32) (harg8 : arg8.IsWhole)
    (arg9 : Memref sig .tc .vmem S2x64x1024 .f32) (harg9 : arg9.IsWhole)
    (arg10 : Memref sig .tc .vmem S2x64x1024 .f32) (harg10 : arg10.IsWhole)
    (hc : isFirst i)
    (x0 x1 : Vec F S2x128x16x64 .bf16) (x2 x3 x4 : Vec F S2x128x1024 .f32) (x5 : Vec F S2x64x1024 .f32) (x6 : Vec F S16x1024 .bf16)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (outBlock x6 ⟨x0, x1, x2, x3, x4⟩ x5)
            ∗ owns (c : Thread nD τ) arg9 fullShare (stateAt x6 ⟨x0, x1, x2, x3, x4⟩ x5 k1_t1_loop.trips)
            ∗ owns (c : Thread nD τ) arg10 fullShare (stateAt x6 ⟨x0, x1, x2, x3, x4⟩ x5 k1_t1_loop.trips)) -∗ K ⟨⟩))
      ⊢ wp frame (wpE (defs₀ (F := F)) Variants.none c none) E (cc1_gdn_scan i arg1 harg1 arg2 harg2 arg3 harg3 arg4 harg4 arg5 harg5 arg6 harg6 arg7 harg7 arg8 harg8 arg9 harg9 arg10 harg10) K := by
  simp only [cc1_gdn_scan_eq_skeleton]; unfold cc1_gdn_scan_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%ds, %fs, -, HS⟩, Hk⟩
  obtain rfl := hf0; obtain rfl := hf1; obtain rfl := hf2; obtain rfl := hf3; obtain rfl := hf4; obtain rfl := hf5; obtain rfl := hf6
  sl_exec (disch := first | sl_exact hc)
  sl_step
  have e7 : View.readAt (Elt F) arg7.view (Rect.unit (s := S16x1024) ![0, 0] S16x1024.size inb_S16x1024_S16x1024_0_0).toLoadRect f6
      = arg7.view.read (Elt F) f6 := ld_all _ _ (by decide) _
  have e6 : arg10.view.read (Elt F) (arg10.view.writes (Elt F) arg10.view.junk (scan_first.sl.HS_1 c arg6 f5))
      = arg6.view.read (Elt F) f5 := by
    unfold scan_first.sl.HS_1
    refine (read_write_all _ _ _ (by decide) _ _).trans ?_
    unfold k1_pay1
    refine (shapeCast_self _ _).trans ((shapeCast_self _ _).trans ?_)
    exact ld_all _ _ (by decide) _

  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    rw [e7,e6]
    exact View.read_writes_eq_canon _ _ _ (outAt_cover_all _ _ _)
  isplitl [H8]
  · iexists _; isplitr
    swap; · iexact H8
    ipureintro
    refine (read_write_all _ _ _ (by decide) _ _).trans ?_
    refine (ld_all _ _ (by decide) _).trans ?_
    rw [hL8, e7,e6]
  iexists _; isplitr
  swap; · iexact HS
  ipureintro
  rw [hL8, e7,e6]

set_option maxHeartbeats 4000000 in
/-- The body at a later grid point: it starts from the state the point before left. -/
theorem scan_next (c : Dev nD) (i : grid1.Coords)
    (arg1 : Memref sig .tc .vmem S2x128x16x64 .bf16) (harg1 : arg1.IsWhole)
    (arg2 : Memref sig .tc .vmem S2x128x16x64 .bf16) (harg2 : arg2.IsWhole)
    (arg3 : Memref sig .tc .vmem S2x128x1024 .f32) (harg3 : arg3.IsWhole)
    (arg4 : Memref sig .tc .vmem S2x128x1024 .f32) (harg4 : arg4.IsWhole)
    (arg5 : Memref sig .tc .vmem S2x128x1024 .f32) (harg5 : arg5.IsWhole)
    (arg6 : Memref sig .tc .vmem S2x64x1024 .f32) (harg6 : arg6.IsWhole)
    (arg7 : Memref sig .tc .vmem S16x1024 .bf16) (harg7 : arg7.IsWhole)
    (arg8 : Memref sig .tc .vmem S2x128x1024 .f32) (harg8 : arg8.IsWhole)
    (arg9 : Memref sig .tc .vmem S2x64x1024 .f32) (harg9 : arg9.IsWhole)
    (arg10 : Memref sig .tc .vmem S2x64x1024 .f32) (harg10 : arg10.IsWhole)
    (hc : ¬ isFirst i)
    (x0 x1 : Vec F S2x128x16x64 .bf16) (x2 x3 x4 : Vec F S2x128x1024 .f32) (x5 : Vec F S2x64x1024 .f32) (x6 : Vec F S16x1024 .bf16) (S : Vec F S2x64x1024 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d) ∗ (∃ d, owns (c : Thread nD τ) arg9 fullShare d) ∗ owns (c : Thread nD τ) arg10 fullShare S
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (outBlock x6 ⟨x0, x1, x2, x3, x4⟩ S)
            ∗ owns (c : Thread nD τ) arg9 fullShare (stateAt x6 ⟨x0, x1, x2, x3, x4⟩ S k1_t1_loop.trips)
            ∗ owns (c : Thread nD τ) arg10 fullShare (stateAt x6 ⟨x0, x1, x2, x3, x4⟩ S k1_t1_loop.trips)) -∗ K ⟨⟩))
      ⊢ wp frame (wpE (defs₀ (F := F)) Variants.none c none) E (cc1_gdn_scan i arg1 harg1 arg2 harg2 arg3 harg3 arg4 harg4 arg5 harg5 arg6 harg6 arg7 harg7 arg8 harg8 arg9 harg9 arg10 harg10) K := by
  simp only [cc1_gdn_scan_eq_skeleton]; unfold cc1_gdn_scan_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%fs, %hfs, HS⟩, Hk⟩
  obtain rfl := hf0; obtain rfl := hf1; obtain rfl := hf2; obtain rfl := hf3; obtain rfl := hf4; obtain rfl := hf5; obtain rfl := hf6; obtain rfl := hfs
  sl_exec (disch := first | sl_exact hc)
  sl_step
  have e7 : View.readAt (Elt F) arg7.view (Rect.unit (s := S16x1024) ![0, 0] S16x1024.size inb_S16x1024_S16x1024_0_0).toLoadRect f6
      = arg7.view.read (Elt F) f6 := ld_all _ _ (by decide) _

  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    rw [e7]
    exact View.read_writes_eq_canon _ _ _ (outAt_cover_all _ _ _)
  isplitl [H8]
  · iexists _; isplitr
    swap; · iexact H8
    ipureintro
    refine (read_write_all _ _ _ (by decide) _ _).trans ?_
    refine (ld_all _ _ (by decide) _).trans ?_
    rw [hL8, e7]
  iexists _; isplitr
  swap; · iexact HS
  ipureintro
  rw [hL8, e7]

end Cert.KernelIdeal.Hand

end
-- ==== Proof.KernelIdeal.Scan.lean ====
module

public import Idealize.ShloMosaic.Lib.WordCmp
public import Idealize.ShloMosaic.Lib.Pipeline.FrameBody
public import Idealize.ShloMosaic.Lib.Tactic
public import proofs.«01_k».proof.Proof.KernelIdeal.ScanRun
public import proofs.«01_k».proof.Proof.Gen.KernelIdeal.Points
public import proofs.«01_k».proof.Proof.Gen.KernelIdeal.Launch

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the buffer contents when the call is entered
variable (V : (c : Dev nD) → (b : Ref sig .tc) → Buf (Elt F) ((c : Thread nD τ).loc b))

/-! # The scan: custom call 1, over the contents `V` it is entered with -/

/-- Window `w`'s block at point `t`, read off its array. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- The first five input blocks at point `t`: keys, queries, values and the two gates. -/
def blocksAt (c : Dev nD) (t : Fin cfg1.N) : Blocks F :=
  ⟨iblk1 V c 0 t, iblk1 V c 1 t, iblk1 V c 2 t, iblk1 V c 3 t, iblk1 V c 4 t⟩

/-- The state before point `n`: at first the one handed in, then what the point before left. -/
def scanSt (c : Dev nD) : ℕ → Vec F S2x64x1024 .f32
  | 0 => iblk1 V c 5 t1_0
  | n + 1 => if h : n < cfg1.N then stateAt (iblk1 V c 6 ⟨n, h⟩) (blocksAt V c ⟨n, h⟩) (scanSt c n) k1_t1_loop.trips else scanSt c n

theorem scanSt_zero (c : Dev nD) : scanSt V c 0 = iblk1 V c 5 t1_0 := rfl

theorem scanSt_succ (c : Dev nD) (t : Fin cfg1.N) :
    scanSt V c (t.val + 1) = stateAt (iblk1 V c 6 t) (blocksAt V c t) (scanSt V c t.val) k1_t1_loop.trips := dif_pos t.isLt

/-- The buffer the kernel carries its state in. -/
abbrev scM1 : Memref sig .tc .vmem S2x64x1024 .f32 := Memref.whole cc1_scratch0

/-- What the region holds before position `n`, besides its windows: after a point, the state buffer at what that point left. -/
def PhiS (c : Dev nD) : ℕ → sProp 𝕄
  | 0 => Pipeline.ΦA spec1 c
  | n + 1 => iprop((owns (c : Thread nD τ) scM1 fullShare (scanSt V c (n + 1))
      ∗ Pipeline.scopedRestBut (Ix := Unit) (Name := ℕ) (U := UR sig nD τ) (Lvl := ℕ) (Val := Elt F) spec1 c [cc1_scratch0]) ∗ (∃ r, prngReg c r))

theorem PhiS_pos (c : Dev nD) (n : ℕ) (hz : n ≠ 0) : PhiS V c n = iprop((owns (c : Thread nD τ) scM1 fullShare (scanSt V c n)
      ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-- Before the first point: the state buffer at anything. -/
theorem PhiA1_eq (c : Dev nD) : (Pipeline.ΦA spec1 c : sProp 𝕄) = iprop(((∃ d, owns (c : Thread nD τ) scM1 fullShare d)
      ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1, owns_whole]; try rfl

theorem isFirst_iff : ∀ t : Fin cfg1.N, isFirst (grid1.coords t) ↔ t.val = 0 :=
  (fun t => by
    have ht : t.val < 8 := Nat.lt_of_lt_of_eq t.isLt N_1
    have e0 : (grid1.coords t 0).val = t.val / 1 % 8 := Pipeline.Grid.coords_val t 0 (by decide) rfl
    have e1 : t.val / 1 % 8 = t.val := by omega
    simp only [isFirst, e0, e1]
    word_cmp
   : ∀ t : Fin grid1.N, isFirst (grid1.coords t) ↔ t.val = 0)

/-- The proof data of the scan: each input's buffer at its block, the outputs at the block of read-outs and the state reached. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => outBlock (iblk1 V c 6 t) (blocksAt V c t) (scanSt V c t.val)
    | ⟨8, _⟩ => stateAt (iblk1 V c 6 t) (blocksAt V c t) (scanSt V c t.val) k1_t1_loop.trips
  Φ t := PhiS V c t.val
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = outBlock (iblk1 V c 6 t) (blocksAt V c t) (scanSt V c t.val) := by dsimp only [dat1]
theorem after1_8 (c : Dev nD) (t : Fin cfg1.N) : (dat1 V c).after 8 t = stateAt (iblk1 V c 6 t) (blocksAt V c t) (scanSt V c t.val) k1_t1_loop.trips := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t))

set_option maxHeartbeats 6400000 in
/-- The body at any point: the first point starts from the state handed in, a later one from the state carried. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).owesAt () t.succ = (dat1 V c).owesAt () t.castSucc from rfl,
    after1_0, after1_1, after1_2, after1_3, after1_4, after1_5, after1_6, after1_7, after1_8]
  rw [show (dat1 V c).Φ t.succ = PhiS V c (t.val + 1) from rfl, PhiS_pos V c _ (Nat.succ_ne_zero _), scanSt_succ,
    show (dat1 V c).Φ t.castSucc = PhiS V c t.val from rfl]
  by_cases hz : t.val = 0
  · have e5 : scanSt V c t.val = iblk1 V c 5 t := by
      obtain rfl : t = t1_0 := Fin.ext hz
      exact scanSt_zero V c
    rw [e5, show PhiS V c t.val = Pipeline.ΦA spec1 c by rw [hz]; rfl, PhiA1_eq]
    iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (scan_first c (grid1.coords t) _ _ _ _ _ _ _ _ _ _ _ _ _ _ _ _ _ _ _ _ ((isFirst_iff t).mpr hz) (iblk1 V c 0 t) (iblk1 V c 1 t) (iblk1 V c 2 t) (iblk1 V c 3 t) (iblk1 V c 4 t) (iblk1 V c 5 t) (iblk1 V c 6 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [HS]; · iexact HS
    iintro ⟨H0, H1, H2, H3, H4, H5, H6, H7, H8, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · rw [PhiS_pos V c t.val hz]
    iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (scan_next c (grid1.coords t) _ _ _ _ _ _ _ _ _ _ _ _ _ _ _ _ _ _ _ _ (fun h => hz ((isFirst_iff t).mp h)) (iblk1 V c 0 t) (iblk1 V c 1 t) (iblk1 V c 2 t) (iblk1 V c 3 t) (iblk1 V c 4 t) (iblk1 V c 5 t) (iblk1 V c 6 t) (scanSt V c t.val) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [HS]; · iexact HS
    iintro ⟨H0, H1, H2, H3, H4, H5, H6, H7, H8, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

/-- The body table's row at point `t`'s slots. -/
theorem defs₀_row1 (t : Fin cfg1.N) :
    defs₀ (F := F) .tc cfg1.body (cfg1.bodyArgs t (cfg1.slots t)) = bodyAt1 t := by
  unfold defs₀; rw [Defs.onTc_tc]

theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

/-- After the last point the state buffer's contents are forgotten. -/
theorem hout1 (c : Dev nD) : (dat1 V c).Φ (Fin.last cfg1.N) ⊢ Pipeline.ΦA spec1 c := by
  rw [show (dat1 V c).Φ (Fin.last cfg1.N) = PhiS V c cfg1.N from rfl,
    PhiS_pos V c cfg1.N (by rw [show cfg1.N = 8 from N_1]; decide), PhiA1_eq]
  iintro ⟨⟨HS, HR⟩, Hg⟩
  isplitl [HS HR]
  · isplitl [HS]
    · iexists _; iexact HS
    iexact HR
  iexact Hg

end Regions

end Cert.KernelIdeal.Hand

end
-- ==== Proof.KernelIdeal.Out.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the buffer contents when the call is entered
variable (V : (c : Dev nD) → (b : Ref sig .tc) → Buf (Elt F) ((c : Thread nD τ).loc b))

/-! # The last projection: custom call 2, over the contents `V` it is entered with -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_0 : Rect S512x1024 := Rect.unit (s := S512x1024) ![0, 0] S512x1024.size inb_S512x1024_S512x1024_0_0
abbrev r2_1 : Rect S1024x1024 := Rect.unit (s := S1024x1024) ![0, 0] S1024x1024.size inb_S1024x1024_S1024x1024_0_0

/-! ## What the body leaves in each output window's buffer -/

/-- Window 2's staging buffer after the body, from the input windows' blocks: its 1 store as pieces, LAST
    FIRST (Lib/Pipeline/FrameBody.lean `View.canon`; the payloads are the skeleton's). -/
def out2_2 (x0 : Vec F S512x1024 .bf16) (x1 : Vec F S1024x1024 .bf16) : Vec F S512x1024 .f32 :=
  View.canon [⟨r2_0, k2_pay1 (View.ld x0 r2_0) (View.ld x1 r2_1)⟩]

/-- Its stores tile the buffer (checked by evaluation), so they cover it. -/
theorem cover2_2 (p0 : Vec F S512x1024 .f32) (y : S512x1024.Idx) :
    ∃ pc ∈ ([⟨r2_0, p0⟩] : List (View.Piece (Elt F) S512x1024 .f32)), y ∈ pc.1.set :=
  View.cover_of_tiled [⟨r2_0, p0⟩] S512x1024.size (by rfl) y

/-! ## The body's triple -/

set_option maxHeartbeats 1000000 in
/-- The kernel body on whole staging memrefs, the inputs' at read contents `xW` and the outputs' at anything, runs to
    the continuation holding the inputs' as they were and each output's at `out2_W` of the inputs': the printed functions
    are their skeletons (`Gen.*_eq_skeleton`), which `sl_exec` runs (Lib/Exec.lean), through every part call. -/
theorem sound_kernel2 (c : Dev nD) (E : Set ℕ) (i : grid2.Coords) (arg1 : Memref sig .tc .vmem S512x1024 .bf16) (harg1 : arg1.IsWhole) (arg2 : Memref sig .tc .vmem S1024x1024 .bf16) (harg2 : arg2.IsWhole) (arg3 : Memref sig .tc .vmem S512x1024 .f32) (harg3 : arg3.IsWhole)
    (x0 : Vec F S512x1024 .bf16) (x1 : Vec F S1024x1024 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2_gdn_out i arg1 harg1 arg2 harg2 arg3 harg3) K := by
  simp only [cc2_gdn_out_eq_skeleton]; unfold cc2_gdn_out_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The proof data of pipeline 1 on core `c`: the arrays as the region finds them (`V`); after the body at
    point `t` each input's buffer at its block and each output's at `out2_W` of the input blocks; the invariant the
    class's (Lib/Pipeline/Frame.lean `ΦA`: the scoped rest and the generator register, untouched); nothing owed;
    full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

/-- The proof data's arrays are the region-entry contents, by projecting the definition (`dsimp`): a region record cites
    this for its arrays rather than have Lean unfold `V`, the fold through @main up to the region's entry. -/
theorem A_eq2 (c : Dev nD) (w : Fin cfg2.W) : (dat2 V c).A w = V c (Pipeline.arrRef spec2 w) := by
  dsimp only [dat2]

/-- What the body leaves, window by window (the proof data's `match` reduced by `dsimp`, never `rfl`: Lib/Pipeline.lean `Dat`). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

/-- Each input's current staging buffer holds its block at every point, fetched there or not (`beforeK_W_of`). -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t` (Lib/Pipeline.lean `BodyObligation`'s precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' memrefs hold their blocks (`before2_W`), so `sound_kernel2` applies; the invariant and
    the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ (grid2.coords t) _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body table's row at point `t`'s slots is the body as `bodyAt2` spells it. -/
theorem defs₀_row2 (t : Fin cfg2.N) :
    defs₀ (F := F) .tc cfg2.body (cfg2.bodyArgs t (cfg2.slots t)) = bodyAt2 t := by
  unfold defs₀; rw [Defs.onTc_tc]

/-- The library's body obligation, at every point: the body's triple restated (Lib/Pipeline/FrameBody.lean `triple_restated`). -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

end Regions

end Cert.KernelIdeal.Hand

end
-- ==== Proof.KernelIdeal.Run.lean ====
module

public import proofs.«01_k».proof.Proof.KernelIdeal.Proj
public import proofs.«01_k».proof.Proof.KernelIdeal.Scan
public import proofs.«01_k».proof.Proof.KernelIdeal.Out
public import proofs.«01_k».proof.Proof.Gen.KernelIdeal.Launch
public import proofs.«01_k».proof.Proof.Gen.KernelIdeal.Regions
public import Idealize.ShloMosaic.Lib.Claim
public import Idealize.ShloMosaic.Lib.Pipeline.RegionsLoop
public import Idealize.ShloMosaic.Lib.Pipeline.FrameSuffix
public import Idealize.ShloMosaic.Lib.Tactic

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The whole program: four host stretches and three calls -/

abbrev argRefs : List (Ref sig .tc) := [main_arg0, main_arg1, main_arg2, main_arg3, main_arg4, main_arg5, main_arg6, main_arg7, main_arg8, main_arg9, main_arg10]

theorem hostOps0_fresh : (hostOps0 : List (HloOp τ sig (Elt F))).Forall fun op => op.fresh = ∅ := by
  simp only [List.Forall]; repeat' constructor
/-- What stretch 0 writes, in order. -/
abbrev hostOps0_W : List (Ref sig .tc) := [main_cst, main_v0, main_v1, main_v2, main_v3, main_v4, main_v5, main_v6, main_v7]
theorem hostOps0_writes : (hostOps0 : List (HloOp τ sig (Elt F))).Forall fun op => op.writes ⊆ (hostOps0_W.map (Proc.devRef (τ := τ) .tc)).toFinset :=
  StableHlo.forall_writes_sub_of_map rfl
theorem hostOps0_args : ∀ a ∈ argRefs, a ∉ hostOps0_W := ListAll.forall_mem_of_all_decide (by decide +kernel)

theorem hostOps1_fresh : (hostOps1 : List (HloOp τ sig (Elt F))).Forall fun op => op.fresh = ∅ := by
  simp only [List.Forall]; repeat' constructor
/-- What stretch 1 writes, in order. -/
abbrev hostOps1_W : List (Ref sig .tc) := [main_v9, main_v10, main_v11, main_v12, main_v13, main_v14, main_v15]
theorem hostOps1_writes : (hostOps1 : List (HloOp τ sig (Elt F))).Forall fun op => op.writes ⊆ (hostOps1_W.map (Proc.devRef (τ := τ) .tc)).toFinset :=
  StableHlo.forall_writes_sub_of_map rfl
theorem hostOps1_args : ∀ a ∈ argRefs, a ∉ hostOps1_W := ListAll.forall_mem_of_all_decide (by decide +kernel)

theorem hostOps2_fresh : (hostOps2 : List (HloOp τ sig (Elt F))).Forall fun op => op.fresh = ∅ := by
  simp only [List.Forall]; repeat' constructor
/-- What stretch 2 writes, in order. -/
abbrev hostOps2_W : List (Ref sig .tc) := [main_v17, main_v18, main_v19]
theorem hostOps2_writes : (hostOps2 : List (HloOp τ sig (Elt F))).Forall fun op => op.writes ⊆ (hostOps2_W.map (Proc.devRef (τ := τ) .tc)).toFinset :=
  StableHlo.forall_writes_sub_of_map rfl
theorem hostOps2_args : ∀ a ∈ argRefs, a ∉ hostOps2_W := ListAll.forall_mem_of_all_decide (by decide +kernel)

theorem hostOps3_fresh : (hostOps3 : List (HloOp τ sig (Elt F))).Forall fun op => op.fresh = ∅ := by
  simp only [List.Forall]; repeat' constructor
/-- What stretch 3 writes, in order. -/
abbrev hostOps3_W : List (Ref sig .tc) := [main_v21, main_v22, main_v23]
theorem hostOps3_writes : (hostOps3 : List (HloOp τ sig (Elt F))).Forall fun op => op.writes ⊆ (hostOps3_W.map (Proc.devRef (τ := τ) .tc)).toFinset :=
  StableHlo.forall_writes_sub_of_map rfl
theorem hostOps3_args : ∀ a ∈ argRefs, a ∉ hostOps3_W := ListAll.forall_mem_of_all_decide (by decide +kernel)

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After host stretch 0. -/
abbrev W1 : Dev nD → Valuation τ sig (Elt F) := fun c => StableHlo.after hostOps0 (W0 m ρ c)
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
abbrev V1 : (c : Dev nD) → (b : Ref sig .tc) → Buf (Elt F) ((c : Thread nD τ).loc b) := fun c b => W1 m ρ c b
/-- After call 0: its arrays at what the pipeline leaves. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After host stretch 1. -/
abbrev W3 : Dev nD → Valuation τ sig (Elt F) := fun c => StableHlo.after hostOps1 (W2 m ρ c)
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
abbrev V3 : (c : Dev nD) → (b : Ref sig .tc) → Buf (Elt F) ((c : Thread nD τ).loc b) := fun c b => W3 m ρ c b
/-- After call 1: its arrays at what the pipeline leaves. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After host stretch 2. -/
abbrev W5 : Dev nD → Valuation τ sig (Elt F) := fun c => StableHlo.after hostOps2 (W4 m ρ c)
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
theorem W5_args (c : Dev nD) : ∀ a ∈ argRefs, W5 m ρ c (Proc.devRef .tc a) = m ((c : Thread nD τ).loc a) :=
  fun a ha => (W5_of m ρ c a (hostOps2_args a ha)).trans (W4_args m ρ c a ha)
abbrev V5 : (c : Dev nD) → (b : Ref sig .tc) → Buf (Elt F) ((c : Thread nD τ).loc b) := fun c b => W5 m ρ c b
/-- After call 2: its arrays at what the pipeline leaves. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
theorem W6_of (c : Dev nD) (r : Ref sig .tc) (h : ∀ w : Fin cfg2.W, Pipeline.arrRef spec2 w = r → (cfg2.win w).isOut = false) :
    W6 m ρ c (Proc.devRef .tc r) = W5 m ρ c (Proc.devRef .tc r) := by
  by_cases hw : ∃ w : Fin cfg2.W, Pipeline.arrRef spec2 w = r
  · obtain ⟨w, rfl⟩ := hw
    exact (W6_arr m ρ c w).trans (((dat2 (V5 m ρ) c).arrAt_in w (h w rfl) _).trans (A_eq2 (V5 m ρ) c w))
  · exact W6_of_ne m ρ c r fun w e => hw ⟨w, e⟩
theorem argsIn2 : ∀ a ∈ argRefs, ∀ w : Fin cfg2.W, Pipeline.arrRef spec2 w = a → (cfg2.win w).isOut = false :=
  ListAll.forall_mem_of_all_decide (by decide +kernel)
theorem W6_args (c : Dev nD) : ∀ a ∈ argRefs, W6 m ρ c (Proc.devRef .tc a) = m ((c : Thread nD τ).loc a) :=
  fun a ha => (W6_of m ρ c a (argsIn2 a ha)).trans (W5_args m ρ c a ha)
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After host stretch 3. -/
abbrev W7 : Dev nD → Valuation τ sig (Elt F) := fun c => StableHlo.after hostOps3 (W6 m ρ c)
theorem W7_of (c : Dev nD) (r : Ref sig .tc) (h : r ∉ hostOps3_W) : W7 m ρ c (Proc.devRef .tc r) = W6 m ρ c (Proc.devRef .tc r) :=
  StableHlo.after_of_writes_sub hostOps3 _ hostOps3_writes h
theorem W7_args (c : Dev nD) : ∀ a ∈ argRefs, W7 m ρ c (Proc.devRef .tc a) = m ((c : Thread nD τ).loc a) :=
  fun a ha => (W7_of m ρ c a (hostOps3_args a ha)).trans (W6_args m ρ c a ha)
abbrev V7 : (c : Dev nD) → (b : Ref sig .tc) → Buf (Elt F) ((c : Thread nD τ).loc b) := fun c b => W7 m ρ c b

/-! ## The proof data family and the thread state -/

abbrev adm : (p : Fin 3) → (pcfgs (F := F) p).Adm := fun p => (cfgs p).toPCfg_adm
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers: the generator register and the core owing nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state: every unscoped buffer at the last boundary's contents. -/
abbrev Tₙ (c : Dev nD) : sProp 𝕄 := iprop(StableHlo.held (c : Thread nD τ) (Pipeline.ucRefs τ sig) (W7 m ρ c) ∗ ∃ r, prngReg c r)

set_option backward.isDefEq.respectTransparency.types false in
/-- Call 0 over the thread state. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 over the thread state. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = (dat1 (V3 m ρ) c).Φ (Fin.last cfg1.N) from rfl]
    refine (hout1 (V3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 2 over the thread state. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) (A_eq2 (V5 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- @main's seven segments in order. -/
abbrev segs : List (Pipeline.Seg (pcfgs (F := F)) adm (pdats m ρ) () defs₀ 𝒱₀ L lv) :=
  [ .host (hseg hostOps0 hostOps0_sub hostOps0_fresh (W0 m ρ)), .region (reg0 m ρ),
    .host (hseg hostOps1 hostOps1_sub hostOps1_fresh (W2 m ρ)), .region (reg1 m ρ),
    .host (hseg hostOps2 hostOps2_sub hostOps2_fresh (W4 m ρ)), .region (reg2 m ρ),
    .host (hseg hostOps3 hostOps3_sub hostOps3_fresh (W6 m ρ)) ]
theorem main_run (c : Dev nD) : main (F := F) c = Pipeline.Seg.run (segs m ρ) := (main_chain c).trans (by chain_rfl)

theorem no_unscoped : ∀ sm : SemLoc sig, sm.isScoped .tc = true := by decide

set_option backward.isDefEq.respectTransparency.types false in
/-- Every run ends with the unscoped buffers at the last boundary's contents and every counter at zero. -/
theorem run_all : θ_run defs (onTc (τ := τ) (main (F := F))) ⟨m, fun _ => 0, ρ⟩ (fun r => (∀ c : Dev nD,
      ∀ b ∈ Pipeline.ucRefs τ sig, r.2.mem (((c : Thread nD τ)).1, b) = W7 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h hz => ⟨h, funext fun g => hz g (.inr (no_unscoped g.2))⟩)

/-- The arguments end as launched, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  (θ_run defs _ _).mono (fun r h => ⟨fun c =>
    have key : ∀ a (hu : ¬ (Proc.devRef .tc a : DevRef τ sig).isScoped) (ha : a ∈ argRefs), r.2.mem ((c.tc : Thread nD τ).loc a) = m ((c.tc : Thread nD τ).loc a) := fun a hu ha =>
      (h.1 c _ (mem_uc a hu)).trans (W7_args m ρ c a ha)
    ⟨key main_arg0 (by decide) (by decide), key main_arg1 (by decide) (by decide), key main_arg2 (by decide) (by decide), key main_arg3 (by decide) (by decide), key main_arg4 (by decide) (by decide), key main_arg5 (by decide) (by decide), key main_arg6 (by decide) (by decide), key main_arg7 (by decide) (by decide), key main_arg8 (by decide) (by decide), key main_arg9 (by decide) (by decide), key main_arg10 (by decide) (by decide)⟩, h.2⟩) (run_all m ρ)

end Cert.KernelIdeal.Hand

end
-- ==== Proof.Values.Spec.lean ====
module

public import Idealize.ShloMosaic.PureOps.Ideal

@[expose] public section

noncomputable section

namespace Cert.Delta

open Idealize.ShloMosaic

/-! # The layer both programs compute, as functions of plain indices

Coordinates: batch `b`, token `s`, head `h`, value lane `v`, key lane `k`; a hidden coordinate is `64 * h + v`. -/

/-- The arguments of the layer. -/
structure Layer where
  x : Fin 2 → Fin 1024 → Fin 1024 → EReal
  wq : Fin 1024 → Fin 1024 → EReal
  wk : Fin 1024 → Fin 1024 → EReal
  wv : Fin 1024 → Fin 1024 → EReal
  wa : Fin 1024 → Fin 16 → EReal
  ba : Fin 16 → EReal
  wb : Fin 1024 → Fin 16 → EReal
  bb : Fin 16 → EReal
  wo : Fin 1024 → Fin 1024 → EReal
  state : Fin 2 → Fin 16 → Fin 64 → Fin 64 → EReal
  mask : Fin 2 → Fin 1024 → BitVec 1

/-- The hidden coordinate of lane `d` of head `h`. -/
abbrev lane (h : Fin 16) (d : Fin 64) : Fin 1024 := ⟨h.val * 64 + d.val, by omega⟩

/-- The clip bounds and the floor of a norm. -/
abbrev low : EReal := Ideal.ofBits .f32 0xC0A00000#32
abbrev high : EReal := Ideal.ofBits .f32 0x40A00000#32
abbrev floor : EReal := Ideal.ofBits .f32 0x358637BD#32

namespace Layer

variable (L : Layer)

/-- A token against a column of a weight. -/
abbrev project {n : ℕ} (w : Fin 1024 → Fin n → EReal) (b : Fin 2) (s : Fin 1024) (j : Fin n) : EReal := ∑ i, L.x b s i * w i j

/-- A head of a projection over its norm, the norm at least `floor`. -/
def unit (w : Fin 1024 → Fin 1024 → EReal) (b : Fin 2) (s : Fin 1024) (h : Fin 16) (d : Fin 64) : EReal :=
  Ideal.div (L.project w b s (lane h d))
    (max (Ideal.sqrt (∑ e, L.project w b s (lane h e) * L.project w b s (lane h e))) floor)

def query := L.unit L.wq
def key := L.unit L.wk
def value (b : Fin 2) (s : Fin 1024) (h : Fin 16) (v : Fin 64) : EReal := Ideal.tanh (L.project L.wv b s (lane h v))
def decay (b : Fin 2) (s : Fin 1024) (h : Fin 16) : EReal := Ideal.logistic (L.project L.wa b s h + L.ba h)
def gain (b : Fin 2) (s : Fin 1024) (h : Fin 16) : EReal := Ideal.logistic (L.project L.wb b s h + L.bb h)

/-- A row of the state after one token that counts. -/
def update (row key : Fin 64 → EReal) (v a g : EReal) (k : Fin 64) : EReal :=
  min high (max low (a * row k + g * ((v - ∑ j, row j * key j) * key k)))

/-- The state after the first `n` tokens. -/
def after : ℕ → Fin 2 → Fin 16 → Fin 64 → Fin 64 → EReal
  | 0, b, h, v, k => L.state b h v k
  | n + 1, b, h, v, k =>
    if hn : n < 1024 then
      if L.mask b ⟨n, hn⟩ = 1#1 then
        update (after n b h v) (L.key b ⟨n, hn⟩ h) (L.value b ⟨n, hn⟩ h v) (L.decay b ⟨n, hn⟩ h) (L.gain b ⟨n, hn⟩ h) k
      else after n b h v k
    else after n b h v k

/-- What a token reads of the state after it. -/
def read (b : Fin 2) (s : Fin 1024) (h : Fin 16) (v : Fin 64) : EReal :=
  if L.mask b s = 1#1 then ∑ k, L.after (s.val + 1) b h v k * L.query b s h k else 0

/-- The head and the lane of a hidden coordinate. -/
abbrev _root_.Cert.Delta.head (j : Fin 1024) : Fin 16 := ⟨j.val / 64, by omega⟩
abbrev _root_.Cert.Delta.within (j : Fin 1024) : Fin 64 := ⟨j.val % 64, by omega⟩

/-- The layer's output. -/
def output (b : Fin 2) (s : Fin 1024) (j : Fin 1024) : EReal := ∑ i, L.read b s (head i) (within i) * L.wo i j

theorem after_succ (s : Fin 1024) (b : Fin 2) (h : Fin 16) (v k : Fin 64) :
    L.after (s.val + 1) b h v k = if L.mask b s = 1#1 then
        update (L.after s.val b h v) (L.key b s h) (L.value b s h v) (L.decay b s h) (L.gain b s h) k
      else L.after s.val b h v k := by
  simp only [after, dif_pos s.isLt, Fin.eta]

end Layer

end Cert.Delta

end
-- ==== Proof.Values.Project.lean ====
module

public import proofs.«01_k».proof.Proof.KernelIdeal.Proj
public import proofs.«01_k».proof.Proof.Values.Spec
public import Idealize.ShloMosaic.Lib.Pipeline.ValueKit
public import Idealize.ShloMosaic.Lib.Pointwise

@[expose] public section

set_option maxRecDepth 16384

noncomputable section

namespace Cert.KernelIdeal.Hand

open Cert.KernelIdeal.Gen
open Idealize.ShloMosaic Idealize.ShloMosaic.TcCoe Idealize.SL.Sem
open Idealize.ShloMosaic.Pipeline (Dat)
open Cert.Delta (lane head within)

/-! # The projection call over the extended reals -/

/-- Summing over the heads against a lane's indicator takes the lane's head. -/
theorem sum_heads (f : Fin 16 → EReal) (c : Fin 1024) : ∑ h, f h * (if c.val / 64 = h.val then 1 else 0) = f (head c) := by
  refine (Finset.sum_eq_single (head c) (fun h _ hne => ?_) (fun hn => absurd (Finset.mem_univ _) hn)).trans ?_
  · rw [if_neg fun e => hne (Fin.ext e.symm), mul_zero]
  · rw [if_pos rfl, mul_one]

/-- Summing over the lanes against a head's indicator takes the head's lanes. -/
theorem sum_lanes (f : Fin 1024 → EReal) (h : Fin 16) : ∑ c : Fin 1024, f c * (if c.val / 64 = h.val then 1 else 0) = ∑ d, f (lane h d) := by
  refine (Fin.sum_univ_tiles 16 64 (by decide) _).trans ?_
  refine (Finset.sum_eq_single h (fun j _ hne => ?_) (fun hn => absurd (Finset.mem_univ _) hn)).trans ?_
  · refine Finset.sum_eq_zero fun d _ => ?_
    have hd := d.isLt
    rw [if_neg (fun e : (j.val * 64 + d.val) / 64 = h.val => hne (Fin.ext (by omega))), mul_zero]
  · refine Finset.sum_congr rfl fun d _ => ?_
    have hd := d.isLt
    rw [if_pos (show (h.val * 64 + d.val) / 64 = h.val by omega), mul_one]

theorem floor_pos : 0 < Cert.Delta.floor := by
  simp [Cert.Delta.floor, Ideal.ofBits, Ideal.ieee, -EReal.coe_mul]

theorem mul_div_one (x n : EReal) : x * Ideal.div 1 (max n Cert.Delta.floor) = Ideal.div x (max n Cert.Delta.floor) := by
  have h : max n Cert.Delta.floor ≠ 0 := ne_of_gt (lt_of_lt_of_le floor_pos (le_max_right _ _))
  unfold Ideal.div
  rw [if_neg h, if_neg h, one_mul]

/-- The indicators, lane first and head first. -/
def LaneHead (sg : FVec Ideal S1024x16 .f32) : Prop := ∀ c h, sg (ix2 c h) = if c.val / 64 = h.val then 1 else 0
def HeadLane (sg : FVec Ideal S16x1024 .f32) : Prop := ∀ h c, sg (ix2 h c) = if c.val / 64 = h.val then 1 else 0

/-- A lane over its head's norm. -/
def unitOf (P : Fin 1024 → EReal) (c : Fin 1024) : EReal :=
  Ideal.div (P c) (max (Ideal.sqrt (∑ d, P (lane (head c) d) * P (lane (head c) d))) Cert.Delta.floor)

theorem unit_row {sg : FVec Ideal S1024x16 .f32} {sgt : FVec Ideal S16x1024 .f32} (hsg : LaneHead sg) (hsgt : HeadLane sgt)
    (P : Fin 1024 → EReal) (c : Fin 1024) :
    P c * ∑ h, Ideal.div 1 (max (Ideal.sqrt (∑ l, P l * P l * sg (ix2 l h))) Cert.Delta.floor) * sgt (ix2 h c) = unitOf P c := by
  simp only [hsg _ _, hsgt _ _]
  rw [sum_heads (fun h => Ideal.div 1 (max (Ideal.sqrt (∑ l : Fin 1024, P l * P l * (if l.val / 64 = h.val then 1 else 0))) Cert.Delta.floor)) c,
    sum_lanes (fun l => P l * P l) (head c)]
  exact mul_div_one _ _

section Payloads
variable {x : FVec Ideal S256x1024 .f32} {w : FVec Ideal S1024x1024 .f32} {sg : FVec Ideal S1024x16 .f32}
  {sgt : FVec Ideal S16x1024 .f32} {mk : FVec Ideal S256x1 .f32} (hsg : LaneHead sg) (hsgt : HeadLane sgt)

/-- A block of rows against a weight. -/
abbrev rowCol {n : ℕ} (x : FVec Ideal S256x1024 .f32) (w : FVec Ideal ⟨2, ![1024, n]⟩ .f32) (r : Fin 256) (c : Fin n) : EReal :=
  ∑ i, x (ix2 r i) * w (ix2 i c)

include hsg hsgt in
theorem pay9_apply (r : Fin 256) (c : Fin 1024) : k0_pay9 (F := Ideal) x sg sgt w (ix2 r c)
    = unitOf (rowCol x w r) c := by
  pointwise [k0_pay9, k0_pay5, k0_pay6]
  exact unit_row hsg hsgt (rowCol x w r) c

include hsg hsgt in
theorem pay8_apply (r : Fin 256) (c : Fin 1024) : k0_pay8 (F := Ideal) x sg sgt mk w (ix2 r c)
    = unitOf (rowCol x w r) c * mk (ix2 r 0) := by
  pointwise [k0_pay8, k0_pay5, k0_pay6, k0_pay7]
  exact congrArg (· * mk (ix2 r 0)) (unit_row hsg hsgt (rowCol x w r) c)

theorem pay4_apply (r : Fin 256) (c : Fin 1024) : k0_pay4 x w (ix2 r c) = Ideal.tanh (rowCol x w r c) := by
  pointwise [k0_pay4]

variable {wg : FVec Ideal S1024x32 .f32} {bg : FVec Ideal S1x32 .f32}

theorem pay1_apply (r : Fin 256) (c : Fin 32) : k0_pay1 x wg bg (ix2 r c) = Ideal.logistic (rowCol x wg r c + bg (ix2 0 c)) := by
  pointwise [k0_pay1]

include hsgt in
theorem pay2_apply (r : Fin 256) (c : Fin 1024) : k0_pay2 x sgt mk wg bg (ix2 r c)
    = if 0 < mk (ix2 r 0) then Ideal.logistic (rowCol x wg r ⟨c.val / 64, by omega⟩ + bg (ix2 0 ⟨c.val / 64, by omega⟩)) else 1 := by
  pointwise [k0_pay2, pay1_apply]
  simp only [hsgt _ _]
  exact sum_heads (fun h => if 0 < mk (ix2 r 0) then Ideal.logistic (rowCol x wg r ⟨h.val, by omega⟩ + bg (ix2 0 ⟨h.val, by omega⟩)) else 1) c

include hsgt in
theorem pay3_apply (r : Fin 256) (c : Fin 1024) : k0_pay3 x sgt mk wg bg (ix2 r c)
    = Ideal.logistic (rowCol x wg r ⟨16 + c.val / 64, by omega⟩ + bg (ix2 0 ⟨16 + c.val / 64, by omega⟩)) * mk (ix2 r 0) := by
  pointwise [k0_pay3, pay1_apply]
  simp only [hsgt _ _]
  exact sum_heads (fun h => Ideal.logistic (rowCol x wg r ⟨16 + h.val, by omega⟩ + bg (ix2 0 ⟨16 + h.val, by omega⟩)) * mk (ix2 r 0)) c

end Payloads

/-! ## What a point leaves, of its blocks -/

theorem zeros2 : (![0, 0] : Fin 2 → ℕ) = fun _ => 0 := by funext a; fin_cases a <;> rfl

theorem ld0_0 (X : Vec Ideal S256x1024 .f32) : View.ld X r0_0 = X := View.ld_unit_zero (S := S256x1024) zeros2 _ X
theorem ld0_1 (X : Vec Ideal S1024x16 .f32) : View.ld X r0_1 = X := View.ld_unit_zero (S := S1024x16) zeros2 _ X
theorem ld0_2 (X : Vec Ideal S16x1024 .f32) : View.ld X r0_2 = X := View.ld_unit_zero (S := S16x1024) zeros2 _ X
theorem ld0_3 (X : Vec Ideal S256x1 .f32) : View.ld X r0_3 = X := View.ld_unit_zero (S := S256x1) zeros2 _ X
theorem ld0_4 (X : Vec Ideal S1024x1024 .f32) : View.ld X r0_4 = X := View.ld_unit_zero (S := S1024x1024) zeros2 _ X
theorem ld0_5 (X : Vec Ideal S1024x32 .f32) : View.ld X r0_5 = X := View.ld_unit_zero (S := S1024x32) zeros2 _ X
theorem ld0_6 (X : Vec Ideal S1x32 .f32) : View.ld X r0_6 = X := View.ld_unit_zero (S := S1x32) zeros2 _ X
/-- A block stored whole is what was stored. -/
theorem canon0 {e : EltTy} (w : Vec Ideal S256x1024 e) : View.canon [(⟨r0_0, w⟩ : View.Piece (Elt Ideal) S256x1024 e)] = w :=
  View.canon_unit_zero (S := S256x1024) zeros2 _ w

section Blocks
variable (x0 : Vec Ideal S256x1024 .f32) (x1 x2 x3 : Vec Ideal S1024x1024 .f32) (x4 : Vec Ideal S1024x32 .f32) (x5 : Vec Ideal S1x32 .f32)
  (x6 : Vec Ideal S256x1 .f32) (x7 : Vec Ideal S1024x16 .f32) (x8 : Vec Ideal S16x1024 .f32)

theorem out0_9_eq : out0_9 (F := Ideal) x0 x1 x2 x3 x4 x5 x6 x7 x8 = k0_pay8 x0 x7 x8 x6 x1 := by
  simp only [out0_9, canon0, ld0_0, ld0_1, ld0_2, ld0_3, ld0_4, ld0_5, ld0_6]
theorem out0_10_eq : out0_10 (F := Ideal) x0 x1 x2 x3 x4 x5 x6 x7 x8 = k0_pay9 x0 x7 x8 x2 := by
  simp only [out0_10, canon0, ld0_0, ld0_1, ld0_2, ld0_3, ld0_4, ld0_5, ld0_6]
theorem out0_11_eq : out0_11 (F := Ideal) x0 x1 x2 x3 x4 x5 x6 x7 x8 = k0_pay4 (k0_pay5 x0) x3 := by
  simp only [out0_11, k0_pay10, canon0, ld0_0, ld0_1, ld0_2, ld0_3, ld0_4, ld0_5, ld0_6]
theorem out0_12_eq : out0_12 (F := Ideal) x0 x1 x2 x3 x4 x5 x6 x7 x8 = k0_pay2 (k0_pay5 x0) (k0_pay6 x8) (k0_pay7 x6) x4 x5 := by
  simp only [out0_12, k0_pay10, k0_pay11, k0_pay12, canon0, ld0_0, ld0_1, ld0_2, ld0_3, ld0_4, ld0_5, ld0_6]
theorem out0_13_eq : out0_13 (F := Ideal) x0 x1 x2 x3 x4 x5 x6 x7 x8 = k0_pay3 (k0_pay5 x0) (k0_pay6 x8) (k0_pay7 x6) x4 x5 := by
  simp only [out0_13, k0_pay10, k0_pay11, k0_pay12, canon0, ld0_0, ld0_1, ld0_2, ld0_3, ld0_4, ld0_5, ld0_6]

end Blocks

theorem pay5_eq (x : FVec Ideal S256x1024 .f32) : k0_pay5 x = x := by
  funext i; pointwise [k0_pay5]
theorem pay6_eq (x : FVec Ideal S16x1024 .f32) : k0_pay6 x = x := by
  funext i; pointwise [k0_pay6]
theorem pay7_eq (x : FVec Ideal S256x1 .f32) : k0_pay7 x = x := by
  funext i; pointwise [k0_pay7]

/-! ## The arrays -/

section Arrays

variable (V : (c : Dev nD) → (b : Ref sig .tc) → Buf (Elt Ideal) ((c : Thread nD τ).loc b)) (c : Dev nD)

theorem idx0 : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![t.val, 0]
    ∧ win0_7.index t = ![0, 0] ∧ win0_8.index t = ![0, 0] ∧ win0_9.index t = ![t.val, 0] ∧ win0_10.index t = ![t.val, 0]
    ∧ win0_11.index t = ![t.val, 0] ∧ win0_12.index t = ![t.val, 0] ∧ win0_13.index t = ![t.val, 0] ∧ t.val < 8 :=
  (by decide +kernel : ∀ t : Fin grid0.N, _)

/-- Row `r` of block `t`. -/
abbrev rowOf (t : Fin cfg0.N) (r : Fin 256) : Fin 2048 :=
  ⟨256 * t.val + r.val, by have := (idx0 t).2.2.2.2.2.2.2.2.2.2.2.2.2.2; omega⟩

abbrev rowsIn : FVec Ideal S2048x1024 .f32 := V c main_v2
abbrev wqIn : FVec Ideal S1024x1024 .f32 := V c main_arg1
abbrev wkIn : FVec Ideal S1024x1024 .f32 := V c main_arg2
abbrev wvIn : FVec Ideal S1024x1024 .f32 := V c main_arg3
abbrev gateIn : FVec Ideal S1024x32 .f32 := V c main_v3
abbrev biasIn : FVec Ideal S1x32 .f32 := V c main_v5
abbrev marksIn : FVec Ideal S2048x1 .f32 := V c main_v7
abbrev tableIn : FVec Ideal S1024x16 .f32 := V c main_cst
abbrev turnedIn : FVec Ideal S16x1024 .f32 := V c main_v0

theorem blk0_rows (t : Fin cfg0.N) (r : Fin 256) (i : Fin 1024) :
    (show FVec Ideal S256x1024 .f32 from iblk0 V c 0 t) (ix2 r i) = rowsIn V c (ix2 (rowOf t r) i) := by
  blk_ext [iblk0, idx0 t]
theorem blk0_wq (t : Fin cfg0.N) : iblk0 V c 1 t = wqIn V c := by
  funext i; blk_ext [iblk0, idx0 t]
theorem blk0_wk (t : Fin cfg0.N) : iblk0 V c 2 t = wkIn V c := by
  funext i; blk_ext [iblk0, idx0 t]
theorem blk0_wv (t : Fin cfg0.N) : iblk0 V c 3 t = wvIn V c := by
  funext i; blk_ext [iblk0, idx0 t]
theorem blk0_gate (t : Fin cfg0.N) : iblk0 V c 4 t = gateIn V c := by
  funext i; blk_ext [iblk0, idx0 t]
theorem blk0_bias (t : Fin cfg0.N) : iblk0 V c 5 t = biasIn V c := by
  funext i; blk_ext [iblk0, idx0 t]
theorem blk0_marks (t : Fin cfg0.N) (r : Fin 256) :
    iblk0 V c 6 t (ix2 r 0 : S256x1.Idx) = marksIn V c (ix2 (rowOf t r) 0) := by
  blk_ext [iblk0, idx0 t]
theorem blk0_table (t : Fin cfg0.N) : iblk0 V c 7 t = tableIn V c := by
  funext i; blk_ext [iblk0, idx0 t]
theorem blk0_turned (t : Fin cfg0.N) : iblk0 V c 8 t = turnedIn V c := by
  funext i; blk_ext [iblk0, idx0 t]

/-- Row `r` of the array against column `j` of a weight. -/
abbrev rowAll {n : ℕ} (X : FVec Ideal S2048x1024 .f32) (w : FVec Ideal ⟨2, ![1024, n]⟩ .f32) (r : Fin 2048) (j : Fin n) : EReal :=
  ∑ i, X (ix2 r i) * w (ix2 i j)

variable {V c}
variable (hsg : LaneHead (tableIn V c)) (hsgt : HeadLane (turnedIn V c))

/-- Where a row of a block lies in the array. -/
theorem row_ext {i : S2048x1024.Idx} {t : Fin cfg0.N} {r : Fin 256} {j : Fin 1024} {o : Fin 2 → ℕ} (ho : o = ![t.val, 0])
    (h0 : (i 0).val = o 0 * 256 + 1 * r.val) (h1 : (i 1).val = o 1 * 1024 + 1 * j.val) : i = ix2 (rowOf t r) j := by
  subst ho
  funext a
  refine Fin.ext ?_
  fin_cases a
  · refine h0.trans ?_
    show t.val * 256 + 1 * r.val = 256 * t.val + r.val
    omega
  · refine h1.trans ?_
    show 0 * 1024 + 1 * j.val = j.val
    omega

theorem row_congr {n : ℕ} {x : FVec Ideal S256x1024 .f32} {X : FVec Ideal S2048x1024 .f32} {w w' : FVec Ideal ⟨2, ![1024, n]⟩ .f32}
    {r : Fin 256} {s : Fin 2048} (hx : ∀ i, x (ix2 r i) = X (ix2 s i)) (hw : w = w') : rowCol x w r = rowAll X w' s := by
  subst hw
  funext j
  exact Finset.sum_congr rfl fun i _ => congrArg (· * _) (hx i)

include hsg hsgt in
theorem point0_9 (t : Fin cfg0.N) (r : Fin 256) (j : Fin 1024) :
    (show FVec Ideal S256x1024 .bf16 from (dat0 V c).after 9 t) (ix2 r j)
      = unitOf (rowAll (rowsIn V c) (wqIn V c) (rowOf t r)) j * marksIn V c (ix2 (rowOf t r) 0) := by
  refine (congrFun ((after0_9 V c t).trans (out0_9_eq _ _ _ _ _ _ _ _ _)) (ix2 r j)).trans ?_
  rw [blk0_table V c t, blk0_turned V c t, blk0_wq V c t]
  refine (pay8_apply hsg hsgt r j).trans ?_
  rw [row_congr (blk0_rows V c t r) rfl]
  exact congrArg (_ * ·) (blk0_marks V c t r)

include hsg hsgt in
theorem point0_10 (t : Fin cfg0.N) (r : Fin 256) (j : Fin 1024) :
    (show FVec Ideal S256x1024 .bf16 from (dat0 V c).after 10 t) (ix2 r j) = unitOf (rowAll (rowsIn V c) (wkIn V c) (rowOf t r)) j := by
  refine (congrFun ((after0_10 V c t).trans (out0_10_eq _ _ _ _ _ _ _ _ _)) (ix2 r j)).trans ?_
  rw [blk0_table V c t, blk0_turned V c t, blk0_wk V c t]
  refine (pay9_apply hsg hsgt r j).trans ?_
  rw [row_congr (blk0_rows V c t r) rfl]

theorem point0_11 (t : Fin cfg0.N) (r : Fin 256) (j : Fin 1024) :
    (show FVec Ideal S256x1024 .f32 from (dat0 V c).after 11 t) (ix2 r j) = Ideal.tanh (rowAll (rowsIn V c) (wvIn V c) (rowOf t r) j) := by
  refine (congrFun ((after0_11 V c t).trans (out0_11_eq _ _ _ _ _ _ _ _ _)) (ix2 r j)).trans ?_
  rw [pay5_eq, blk0_wv V c t]
  refine (pay4_apply r j).trans ?_
  rw [row_congr (blk0_rows V c t r) rfl]

include hsgt in
theorem point0_12 (t : Fin cfg0.N) (r : Fin 256) (j : Fin 1024) :
    (show FVec Ideal S256x1024 .f32 from (dat0 V c).after 12 t) (ix2 r j)
      = if 0 < marksIn V c (ix2 (rowOf t r) 0) then
          Ideal.logistic (rowAll (rowsIn V c) (gateIn V c) (rowOf t r) ⟨j.val / 64, by omega⟩ + biasIn V c (ix2 0 ⟨j.val / 64, by omega⟩))
        else 1 := by
  refine (congrFun ((after0_12 V c t).trans (out0_12_eq _ _ _ _ _ _ _ _ _)) (ix2 r j)).trans ?_
  rw [pay5_eq, pay6_eq, pay7_eq, blk0_turned V c t, blk0_gate V c t, blk0_bias V c t]
  refine (pay2_apply hsgt r j).trans ?_
  rw [row_congr (blk0_rows V c t r) rfl, blk0_marks V c t r]

include hsgt in
theorem point0_13 (t : Fin cfg0.N) (r : Fin 256) (j : Fin 1024) :
    (show FVec Ideal S256x1024 .f32 from (dat0 V c).after 13 t) (ix2 r j)
      = Ideal.logistic (rowAll (rowsIn V c) (gateIn V c) (rowOf t r) ⟨16 + j.val / 64, by omega⟩
          + biasIn V c (ix2 0 ⟨16 + j.val / 64, by omega⟩)) * marksIn V c (ix2 (rowOf t r) 0) := by
  refine (congrFun ((after0_13 V c t).trans (out0_13_eq _ _ _ _ _ _ _ _ _)) (ix2 r j)).trans ?_
  rw [pay5_eq, pay6_eq, pay7_eq, blk0_turned V c t, blk0_gate V c t, blk0_bias V c t]
  refine (pay3_apply hsgt r j).trans ?_
  rw [row_congr (blk0_rows V c t r) rfl, blk0_marks V c t r]

include hsg hsgt in
/-- The queries, zero where the token does not count. -/
theorem arr0_9 (r : Fin 2048) (j : Fin 1024) :
    (show FVec Ideal S2048x1024 .bf16 from (dat0 V c).arrAt 9 cfg0.N) (ix2 r j) = unitOf (rowAll (rowsIn V c) (wqIn V c) r) j * marksIn V c (ix2 r 0) := by
  refine congrFun (f := (dat0 V c).arrAt 9 cfg0.N) (g := show FVec Ideal S2048x1024 .bf16 from fun i => unitOf (rowAll (rowsIn V c) (wqIn V c) (i 0)) (i 1) * marksIn V c (ix2 (i 0) 0))
    ((dat0 V c).arrAt_eq_of_covers 9 _ (by decide +kernel) fun t _ y => ?_) (ix2 r j)
  obtain ⟨y0, y1, rfl⟩ : ∃ y0 y1, y = (ix2 y0 y1 : S256x1024.Idx) := ⟨_, _, eq_ix2 y⟩
  refine (point0_9 hsg hsgt t y0 y1).trans ?_
  rw [show ((cfg0.win 9).blk t).view.emb (ix2 y0 y1 : S256x1024.Idx) = ix2 (rowOf t y0) y1 from row_ext (idx0 t).2.2.2.2.2.2.2.2.2.1 rfl rfl]
  rfl

include hsg hsgt in
/-- The keys. -/
theorem arr0_10 (r : Fin 2048) (j : Fin 1024) :
    (show FVec Ideal S2048x1024 .bf16 from (dat0 V c).arrAt 10 cfg0.N) (ix2 r j) = unitOf (rowAll (rowsIn V c) (wkIn V c) r) j := by
  refine congrFun (f := (dat0 V c).arrAt 10 cfg0.N) (g := show FVec Ideal S2048x1024 .bf16 from fun i => unitOf (rowAll (rowsIn V c) (wkIn V c) (i 0)) (i 1))
    ((dat0 V c).arrAt_eq_of_covers 10 _ (by decide +kernel) fun t _ y => ?_) (ix2 r j)
  obtain ⟨y0, y1, rfl⟩ : ∃ y0 y1, y = (ix2 y0 y1 : S256x1024.Idx) := ⟨_, _, eq_ix2 y⟩
  refine (point0_10 hsg hsgt t y0 y1).trans ?_
  rw [show ((cfg0.win 10).blk t).view.emb (ix2 y0 y1 : S256x1024.Idx) = ix2 (rowOf t y0) y1 from row_ext (idx0 t).2.2.2.2.2.2.2.2.2.2.1 rfl rfl]
  rfl

/-- The values. -/
theorem arr0_11 (r : Fin 2048) (j : Fin 1024) :
    (show FVec Ideal S2048x1024 .f32 from (dat0 V c).arrAt 11 cfg0.N) (ix2 r j) = Ideal.tanh (rowAll (rowsIn V c) (wvIn V c) r j) := by
  refine congrFun (f := (dat0 V c).arrAt 11 cfg0.N) (g := show FVec Ideal S2048x1024 .f32 from fun i => Ideal.tanh (rowAll (rowsIn V c) (wvIn V c) (i 0) (i 1)))
    ((dat0 V c).arrAt_eq_of_covers 11 _ (by decide +kernel) fun t _ y => ?_) (ix2 r j)
  obtain ⟨y0, y1, rfl⟩ : ∃ y0 y1, y = (ix2 y0 y1 : S256x1024.Idx) := ⟨_, _, eq_ix2 y⟩
  refine (point0_11 t y0 y1).trans ?_
  rw [show ((cfg0.win 11).blk t).view.emb (ix2 y0 y1 : S256x1024.Idx) = ix2 (rowOf t y0) y1 from row_ext (idx0 t).2.2.2.2.2.2.2.2.2.2.2.1 rfl rfl]
  rfl

include hsgt in
/-- The decays, one where the token does not count. -/
theorem arr0_12 (r : Fin 2048) (j : Fin 1024) :
    (show FVec Ideal S2048x1024 .f32 from (dat0 V c).arrAt 12 cfg0.N) (ix2 r j) = if 0 < marksIn V c (ix2 r 0) then Ideal.logistic (rowAll (rowsIn V c) (gateIn V c) r ⟨j.val / 64, by omega⟩ + biasIn V c (ix2 0 ⟨j.val / 64, by omega⟩)) else 1 := by
  refine congrFun (f := (dat0 V c).arrAt 12 cfg0.N) (g := show FVec Ideal S2048x1024 .f32 from fun i => if 0 < marksIn V c (ix2 (i 0) 0) then Ideal.logistic (rowAll (rowsIn V c) (gateIn V c) (i 0) ⟨(i 1).val / 64, by have h : (i 1).val < 1024 := (i 1).isLt; omega⟩ + biasIn V c (ix2 0 ⟨(i 1).val / 64, by have h : (i 1).val < 1024 := (i 1).isLt; omega⟩)) else 1)
    ((dat0 V c).arrAt_eq_of_covers 12 _ (by decide +kernel) fun t _ y => ?_) (ix2 r j)
  obtain ⟨y0, y1, rfl⟩ : ∃ y0 y1, y = (ix2 y0 y1 : S256x1024.Idx) := ⟨_, _, eq_ix2 y⟩
  refine (point0_12 hsgt t y0 y1).trans ?_
  rw [show ((cfg0.win 12).blk t).view.emb (ix2 y0 y1 : S256x1024.Idx) = ix2 (rowOf t y0) y1 from row_ext (idx0 t).2.2.2.2.2.2.2.2.2.2.2.2.1 rfl rfl]
  rfl

include hsgt in
/-- The gains, zero where the token does not count. -/
theorem arr0_13 (r : Fin 2048) (j : Fin 1024) :
    (show FVec Ideal S2048x1024 .f32 from (dat0 V c).arrAt 13 cfg0.N) (ix2 r j) = Ideal.logistic (rowAll (rowsIn V c) (gateIn V c) r ⟨16 + j.val / 64, by omega⟩ + biasIn V c (ix2 0 ⟨16 + j.val / 64, by omega⟩)) * marksIn V c (ix2 r 0) := by
  refine congrFun (f := (dat0 V c).arrAt 13 cfg0.N) (g := show FVec Ideal S2048x1024 .f32 from fun i => Ideal.logistic (rowAll (rowsIn V c) (gateIn V c) (i 0) ⟨16 + (i 1).val / 64, by have h : (i 1).val < 1024 := (i 1).isLt; omega⟩ + biasIn V c (ix2 0 ⟨16 + (i 1).val / 64, by have h : (i 1).val < 1024 := (i 1).isLt; omega⟩)) * marksIn V c (ix2 (i 0) 0))
    ((dat0 V c).arrAt_eq_of_covers 13 _ (by decide +kernel) fun t _ y => ?_) (ix2 r j)
  obtain ⟨y0, y1, rfl⟩ : ∃ y0 y1, y = (ix2 y0 y1 : S256x1024.Idx) := ⟨_, _, eq_ix2 y⟩
  refine (point0_13 hsgt t y0 y1).trans ?_
  rw [show ((cfg0.win 13).blk t).view.emb (ix2 y0 y1 : S256x1024.Idx) = ix2 (rowOf t y0) y1 from row_ext (idx0 t).2.2.2.2.2.2.2.2.2.2.2.2.2.1 rfl rfl]
  rfl

end Arrays

end Cert.KernelIdeal.Hand

end
-- ==== Proof.Values.Tile.lean ====
module

public import proofs.«01_k».proof.Proof.KernelIdeal.ScanTile
public import Idealize.ShloMosaic.Lib.Pipeline.ValueKit
public import Idealize.ShloMosaic.Lib.Pointwise

@[expose] public section

set_option maxRecDepth 16384

noncomputable section

namespace Cert.KernelIdeal.Hand

open Cert.KernelIdeal.Gen
open Idealize.ShloMosaic Idealize.ShloMosaic.TcCoe Idealize.SL.Sem

/-! # A token's tile over the extended reals -/

/-- The head indicator: lane `c` belongs to head `c / 64`. -/
def IsSeg (sg : FVec Ideal S16x1024 .bf16) : Prop :=
  ∀ (h : Fin 16) (c : Fin 1024), sg (ix2 h c) = if c.val / 64 = h.val then 1 else 0

/-- The head of a lane. -/
abbrev headOf (c : Fin 1024) : Fin 16 := ⟨c.val / 64, by omega⟩

/-- Lane `l` of tile `j`. -/
abbrev laneOf (j : Fin 8) (l : Fin 128) : Fin 1024 := ⟨128 * j.val + l.val, by omega⟩

/-- Spreading a row of keys copies each head's keys to the head's lanes. -/
theorem spread_apply {sg : FVec Ideal S16x1024 .bf16} (hsg : IsSeg sg) (x : FVec Ideal S16x64 .bf16) (j : Fin 8) (k : Fin 64)
    (l : Fin 128) : spread j sg x (ix2 k l) = x (ix2 (headOf (laneOf j l)) k) := by
  pointwise [spread]
  rw [Fin.sum_univ_two]
  have e0 : (2 * j.val + 0 = (128 * j.val + l.val) / 64) ↔ l.val < 64 := by omega
  have e1 : (2 * j.val + 1 = (128 * j.val + l.val) / 64) ↔ ¬ l.val < 64 := by omega
  by_cases h : l.val < 64
  · refine (congrArg₂ (· + ·) (congrArg₂ (· * ·) rfl ((hsg _ _).trans (if_pos (e0.mpr h).symm)))
      (congrArg₂ (· * ·) rfl ((hsg _ _).trans (if_neg fun q => e1.mp q.symm h)))).trans ?_
    show x _ * 1 + x _ * 0 = _
    rw [mul_one, mul_zero, add_zero]
    exact congrArg (fun i => x (ix2 i k)) (Fin.ext (e0.mpr h))
  · refine (congrArg₂ (· + ·) (congrArg₂ (· * ·) rfl ((hsg _ _).trans (if_neg fun q => h (e0.mp q.symm))))
      (congrArg₂ (· * ·) rfl ((hsg _ _).trans (if_pos (e1.mpr h).symm)))).trans ?_
    show x _ * 0 + x _ * 1 = _
    rw [mul_one, mul_zero, zero_add]
    exact congrArg (fun i => x (ix2 i k)) (Fin.ext (e1.mpr h))

theorem lanes_apply (x : FVec Ideal S1x1024 .f32) (j : Fin 8) (l : Fin 128) : lanes j x (ix2 0 l) = x (ix2 0 (laneOf j l)) := by
  pointwise [lanes]

theorem rowSum_apply (x : FVec Ideal S64x128 .f32) (l : Fin 128) : rowSum x (ix2 0 l) = ∑ k : Fin 64, x (ix2 k l) := by
  pointwise [rowSum]

/-- The clipping range. -/
abbrev lo : EReal := Ideal.ofBits .f32 0xC0A00000#32
abbrev hi : EReal := Ideal.ofBits .f32 0x40A00000#32

/-- One entry of the state after a token: its lane's column before, the lane's keys, value, decay and gain. -/
def cell (col key : Fin 64 → EReal) (v a b : EReal) (k : Fin 64) : EReal :=
  min (max (a * col k + (v - ∑ k', col k' * key k') * b * key k) lo) hi

/-- Lane `c`'s keys, queries, value, decay and gain in a token's rows. -/
def Rows.key (r : Rows Ideal) (c : Fin 1024) (k : Fin 64) : EReal := (show FVec Ideal S1x1x16x64 .bf16 from r.k) (ix4 0 0 (headOf c) k)
def Rows.query (r : Rows Ideal) (c : Fin 1024) (k : Fin 64) : EReal := (show FVec Ideal S1x1x16x64 .bf16 from r.q) (ix4 0 0 (headOf c) k)
def Rows.value (r : Rows Ideal) (c : Fin 1024) : EReal := (show FVec Ideal S1x1x1024 .f32 from r.v) (ix3 0 0 c)
def Rows.decay (r : Rows Ideal) (c : Fin 1024) : EReal := (show FVec Ideal S1x1x1024 .f32 from r.a) (ix3 0 0 c)
def Rows.gain (r : Rows Ideal) (c : Fin 1024) : EReal := (show FVec Ideal S1x1x1024 .f32 from r.b) (ix3 0 0 c)

/-- Lane `c`'s column after the token. -/
def Rows.col (r : Rows Ideal) (c : Fin 1024) (col : Fin 64 → EReal) : Fin 64 → EReal :=
  cell col (r.key c) (r.value c) (r.decay c) (r.gain c)

theorem tileNew_apply {sg : FVec Ideal S16x1024 .bf16} (hsg : IsSeg sg) (r : Rows Ideal) (st : FVec Ideal S1x64x128 .f32)
    (j : Fin 8) (k : Fin 64) (l : Fin 128) :
    tileNew j sg r st (ix2 k l) = r.col (laneOf j l) (fun k' => st (ix3 0 k' l)) k := by
  obtain ⟨rk, rq, rv, ra, rb⟩ := r
  unfold tileNew
  pointwise [tileCore, rowSum_apply, lanes_apply, spread_apply hsg]
  rfl

theorem tileOut_apply {sg : FVec Ideal S16x1024 .bf16} (hsg : IsSeg sg) (r : Rows Ideal) (st : FVec Ideal S1x64x128 .f32)
    (j : Fin 8) (l : Fin 128) :
    tileOut j sg r st (ix2 0 l)
      = ∑ k, r.col (laneOf j l) (fun k' => st (ix3 0 k' l)) k * r.query (laneOf j l) k := by
  unfold tileOut
  rw [rowSum_apply]
  refine Finset.sum_congr rfl fun k _ => ?_
  obtain ⟨rk, rq, rv, ra, rb⟩ := r
  pointwise [tileNew_apply hsg, spread_apply hsg]
  rfl

/-! ## The state after the token -/

theorem tileOf_apply (S : FVec Ideal S2x64x1024 .f32) (b : Fin 2) (j : Fin 8) (k : Fin 64) (l : Fin 128) :
    (show FVec Ideal S1x64x128 .f32 from tileOf (F := Ideal) S b j) (ix3 0 k l) = S (ix3 b k (laneOf j l)) := by
  unfold tileOf View.ld
  refine congrArg S (funext fun a => Fin.ext ?_)
  fin_cases a
  · show b.val + 1 * 0 = b.val; omega
  · show 0 + 1 * k.val = k.val; omega
  · show 128 * j.val + 1 * l.val = 128 * j.val + l.val; omega

theorem segOf_eq (sg : FVec Ideal S16x1024 .bf16) : segOf (F := Ideal) sg = sg := by
  funext i
  unfold segOf
  pointwise

theorem piece_apply {sg : FVec Ideal S16x1024 .bf16} (hsg : IsSeg sg) (r : Fin 2 → Rows Ideal) (S : FVec Ideal S2x64x1024 .f32)
    (b : Fin 2) (j : Fin 8) (k : Fin 64) (l : Fin 128) :
    (show FVec Ideal S1x64x128 .f32 from (piece (F := Ideal) sg r S b j).2) (ix3 0 k l)
      = (r b).col (laneOf j l) (fun k' => (show FVec Ideal S1x64x128 .f32 from tileOf (F := Ideal) S b j) (ix3 0 k' l)) k := by
  unfold piece
  rw [segOf_eq]
  pointwise [tileNew_apply hsg]

/-- The state after a token, entry by entry. -/
theorem stepState_apply {sg : FVec Ideal S16x1024 .bf16} (hsg : IsSeg sg) (r : Fin 2 → Rows Ideal) (S : FVec Ideal S2x64x1024 .f32)
    (b : Fin 2) (k : Fin 64) (c : Fin 1024) :
    stepState (F := Ideal) sg r S (ix3 b k c) = (r b).col c (fun k' => S (ix3 b k' c)) k := by
  unfold stepState
  refine View.canon_eq_of_allAt (pieces (F := Ideal) sg r S) (ix3 b k c : S2x64x1024.Idx) _
    (pieces_cover (F := Ideal) sg r S (ix3 b k c : S2x64x1024.Idx)) ?_
  have key : ∀ (b' : Fin 2) (j : Fin 8) (x : (tileRect b' j).shape.Idx), (tileRect b' j).emb x = ix3 b k c →
      (piece (F := Ideal) sg r S b' j).2 x = (r b).col c (fun k' => S (ix3 b k' c)) k := by
    intro b' j x hx
    obtain ⟨x0, x1, l, rfl⟩ : ∃ (x0 : Fin 1) (x1 : Fin 64) (l : Fin 128), x = ix3 x0 x1 l := ⟨x 0, x 1, x 2, eq_ix3 x⟩
    have h0 : b'.val + 1 * x0.val = b.val := congrArg (fun y : S2x64x1024.Idx => (y 0).val) hx
    have h1 : 0 + 1 * x1.val = k.val := congrArg (fun y : S2x64x1024.Idx => (y 1).val) hx
    have h2 : 128 * j.val + 1 * l.val = c.val := congrArg (fun y : S2x64x1024.Idx => (y 2).val) hx
    obtain rfl : x0 = 0 := Subsingleton.elim _ _
    obtain rfl : b' = b := Fin.ext (by simpa using h0)
    obtain rfl : x1 = k := Fin.ext (by omega)
    obtain rfl : laneOf j l = c := Fin.ext (by show 128 * j.val + l.val = _; omega)
    refine (piece_apply hsg r S b' j x1 l).trans ?_
    unfold Rows.col
    exact congrArg (fun f => cell f _ _ _ _ x1) (funext fun k' => tileOf_apply S b' j k' l)
  intro p hp x hx
  unfold pieces at hp
  simp only [List.mem_cons, List.not_mem_nil, or_false] at hp
  rcases hp with rfl | rfl | rfl | rfl | rfl | rfl | rfl | rfl | rfl | rfl | rfl | rfl | rfl | rfl | rfl | rfl <;>
    exact key _ _ x hx

/-! ## The token's output row -/

/-- Lane `c`'s output: its column after the token against its queries. -/
def Rows.out (r : Rows Ideal) (c : Fin 1024) (col : Fin 64 → EReal) : EReal :=
  ∑ k, r.col c col k * r.query c k

theorem outRow_apply {sg : FVec Ideal S16x1024 .bf16} (hsg : IsSeg sg) (r : Rows Ideal) (S : FVec Ideal S2x64x1024 .f32) (b : Fin 2)
    (c : Fin 1024) :
    outRow (F := Ideal) sg r (tileOf S b) (ix3 0 0 c) = r.out c fun k => S (ix3 b k c) := by
  have key : ∀ (j : Fin 8) (l : Fin 128), laneOf j l = c →
      tileOut j sg r (tileOf (F := Ideal) S b j) (ix2 0 l) = r.out c fun k => S (ix3 b k c) := by
    rintro j l rfl
    refine (tileOut_apply hsg r _ j l).trans (Finset.sum_congr rfl fun k _ => ?_)
    unfold Rows.col
    exact congrArg (fun f => cell f _ _ _ _ k * _) (funext fun k' => tileOf_apply S b j k' l)
  unfold outRow
  rw [segOf_eq]
  pointwise
  split_ifs <;> refine key _ _ (Fin.ext ?_) <;> simp [laneOf] <;> omega

end Cert.KernelIdeal.Hand

end
-- ==== Proof.Values.Block.lean ====
module

public import proofs.«01_k».proof.Proof.Values.Tile

@[expose] public section

set_option maxRecDepth 16384

noncomputable section

namespace Cert.KernelIdeal.Hand

open Cert.KernelIdeal.Gen
open Idealize.ShloMosaic Idealize.ShloMosaic.TcCoe Idealize.SL.Sem

/-! # A block of tokens over the extended reals -/

theorem trips_eq : k1_t1_loop.trips = 128 := by decide

/-- A token of the block as one of 128. -/
abbrev tok (t : Fin k1_t1_loop.trips) : Fin 128 := ⟨t.val, Nat.lt_of_lt_of_le t.isLt (by decide)⟩

theorem ld_row3 (X : FVec Ideal S2x128x1024 .f32) (off : Fin 3 → ℕ) (inb : ∀ a, off a + S1x1x1024.size a ≤ S2x128x1024.size a)
    (b : Fin 2) (t : Fin 128) (h : off = ![b.val, t.val, 0]) (c : Fin 1024) :
    X ((Rect.unit (s := S2x128x1024) off S1x1x1024.size inb).idx (ix3 0 0 c)) = X (ix3 b t c) := by
  subst h
  refine congrArg X (funext fun a => Fin.ext ?_)
  fin_cases a
  · show b.val + 1 * 0 = b.val; omega
  · show t.val + 1 * 0 = t.val; omega
  · show 0 + 1 * c.val = c.val; omega

theorem ld_row4 (X : FVec Ideal S2x128x16x64 .bf16) (off : Fin 4 → ℕ) (inb : ∀ a, off a + S1x1x16x64.size a ≤ S2x128x16x64.size a)
    (b : Fin 2) (t : Fin 128) (h : off = ![b.val, t.val, 0, 0]) (d : Fin 16) (k : Fin 64) :
    X ((Rect.unit (s := S2x128x16x64) off S1x1x16x64.size inb).idx (ix4 0 0 d k)) = X (ix4 b t d k) := by
  subst h
  refine congrArg X (funext fun a => Fin.ext ?_)
  fin_cases a
  · show b.val + 1 * 0 = b.val; omega
  · show t.val + 1 * 0 = t.val; omega
  · show 0 + 1 * d.val = d.val; omega
  · show 0 + 1 * k.val = k.val; omega

section Reads
variable (x : Blocks Ideal) (t : Fin k1_t1_loop.trips) (b : Fin 2) (c : Fin 1024)

theorem rowsAt_key (k : Fin 64) :
    (rowsAt x t b).key c k = (show FVec Ideal S2x128x16x64 .bf16 from x.k) (ix4 b (tok t) (headOf c) k) := by
  fin_cases b
  · exact ld_row4 x.k _ _ 0 (tok t) (k1_off1_eq t) _ k
  · exact ld_row4 x.k _ _ 1 (tok t) (k1_off3_eq t) _ k
theorem rowsAt_query (k : Fin 64) :
    (rowsAt x t b).query c k = (show FVec Ideal S2x128x16x64 .bf16 from x.q) (ix4 b (tok t) (headOf c) k) := by
  fin_cases b
  · exact ld_row4 x.q _ _ 0 (tok t) (k1_off1_eq t) _ k
  · exact ld_row4 x.q _ _ 1 (tok t) (k1_off3_eq t) _ k
theorem rowsAt_value : (rowsAt x t b).value c = (show FVec Ideal S2x128x1024 .f32 from x.v) (ix3 b (tok t) c) := by
  fin_cases b
  · exact ld_row3 x.v _ _ 0 (tok t) (k1_off2_eq t) c
  · exact ld_row3 x.v _ _ 1 (tok t) (k1_off4_eq t) c
theorem rowsAt_decay : (rowsAt x t b).decay c = (show FVec Ideal S2x128x1024 .f32 from x.a) (ix3 b (tok t) c) := by
  fin_cases b
  · exact ld_row3 x.a _ _ 0 (tok t) (k1_off2_eq t) c
  · exact ld_row3 x.a _ _ 1 (tok t) (k1_off4_eq t) c
theorem rowsAt_gain : (rowsAt x t b).gain c = (show FVec Ideal S2x128x1024 .f32 from x.b) (ix3 b (tok t) c) := by
  fin_cases b
  · exact ld_row3 x.b _ _ 0 (tok t) (k1_off2_eq t) c
  · exact ld_row3 x.b _ _ 1 (tok t) (k1_off4_eq t) c
end Reads

/-- The state inside a block follows the columns `T` from time `t₀` on. -/
theorem stateAt_apply {sg : FVec Ideal S16x1024 .bf16} (hsg : IsSeg sg) (x : Blocks Ideal) (S : FVec Ideal S2x64x1024 .f32)
    (T : ℕ → Fin 2 → Fin 1024 → Fin 64 → EReal) (t₀ : ℕ) (h0 : ∀ b k c, S (ix3 b k c) = T t₀ b c k)
    (hT : ∀ (t : Fin k1_t1_loop.trips) b c, (rowsAt x t b).col c (T (t₀ + t.val) b c) = T (t₀ + t.val + 1) b c) :
    ∀ n, n ≤ k1_t1_loop.trips → ∀ (b : Fin 2) (k : Fin 64) (c : Fin 1024),
      stateAt (F := Ideal) sg x S n (ix3 b k c) = T (t₀ + n) b c k
  | 0, _, b, k, c => h0 b k c
  | n + 1, hn, b, k, c => by
    rw [stateAt_succ sg x S ⟨n, hn⟩]
    refine (stepState_apply hsg _ _ b k c).trans ?_
    rw [show (fun k' => stateAt (F := Ideal) sg x S n (ix3 b k' c)) = T (t₀ + n) b c from
      funext fun k' => stateAt_apply hsg x S T t₀ h0 hT n (Nat.le_of_succ_le hn) b k' c]
    exact congrFun (hT ⟨n, hn⟩ b c) k

/-- The output block's rows, each from the columns before its token. -/
theorem outBlock_apply {sg : FVec Ideal S16x1024 .bf16} (hsg : IsSeg sg) (x : Blocks Ideal) (S : FVec Ideal S2x64x1024 .f32)
    (T : ℕ → Fin 2 → Fin 1024 → Fin 64 → EReal) (t₀ : ℕ) (h0 : ∀ b k c, S (ix3 b k c) = T t₀ b c k)
    (hT : ∀ (t : Fin k1_t1_loop.trips) b c, (rowsAt x t b).col c (T (t₀ + t.val) b c) = T (t₀ + t.val + 1) b c)
    (t : Fin k1_t1_loop.trips) (b : Fin 2) (c : Fin 1024) :
    outBlock (F := Ideal) sg x S (ix3 b (tok t) c) = (rowsAt x t b).out c (T (t₀ + t.val) b c) := by
  unfold outBlock
  refine View.canon_eq_of_allAt (outAt (F := Ideal) sg x S k1_t1_loop.trips) (ix3 b (tok t) c : S2x128x1024.Idx) _
    (outAt_cover_all (F := Ideal) sg x S (ix3 b (tok t) c : S2x128x1024.Idx)) ?_
  have row : ∀ (s : Fin k1_t1_loop.trips) (b' : Fin 2),
      outRow (F := Ideal) sg (rowsAt x s b') (tileOf (stateAt sg x S s.val) b') (ix3 0 0 c)
        = (rowsAt x s b').out c (T (t₀ + s.val) b' c) := fun s b' =>
    (outRow_apply hsg _ _ b' c).trans (congrArg _ (funext fun k => stateAt_apply hsg x S T t₀ h0 hT s.val (Nat.le_of_lt s.isLt) b' k c))
  have hit : ∀ (s : Fin k1_t1_loop.trips) (b' : Fin 2) (off : Fin 3 → ℕ) (inb : ∀ a, off a + S1x1x1024.size a ≤ S2x128x1024.size a),
      off = ![b'.val, s.val, 0] → ∀ y : (Rect.unit (s := S2x128x1024) off S1x1x1024.size inb).shape.Idx,
      (Rect.unit (s := S2x128x1024) off S1x1x1024.size inb).emb y = (ix3 b (tok t) c : S2x128x1024.Idx) →
      outRow (F := Ideal) sg (rowsAt x s b') (tileOf (stateAt sg x S s.val) b') y = (rowsAt x t b).out c (T (t₀ + t.val) b c) := by
    rintro s b' off inb rfl y hy
    obtain ⟨y0, y1, l, rfl⟩ : ∃ (y0 y1 : Fin 1) (l : Fin 1024), y = ix3 y0 y1 l := ⟨y 0, y 1, y 2, eq_ix3 y⟩
    have e0 : b'.val + 1 * y0.val = b.val := congrArg (fun y : S2x128x1024.Idx => (y 0).val) hy
    have e1 : s.val + 1 * y1.val = t.val := congrArg (fun y : S2x128x1024.Idx => (y 1).val) hy
    have e2 : 0 + 1 * l.val = c.val := congrArg (fun y : S2x128x1024.Idx => (y 2).val) hy
    obtain rfl : y0 = 0 := Subsingleton.elim _ _
    obtain rfl : y1 = 0 := Subsingleton.elim _ _
    obtain rfl : b' = b := Fin.ext (by simpa using e0)
    obtain rfl : s = t := Fin.ext (by simpa using e1)
    obtain rfl : l = c := Fin.ext (by omega)
    exact row s b'
  have key : ∀ n, n ≤ k1_t1_loop.trips → ∀ p ∈ outAt (F := Ideal) sg x S n, ∀ y, p.1.emb y = (ix3 b (tok t) c : S2x128x1024.Idx) →
      p.2 y = (rowsAt x t b).out c (T (t₀ + t.val) b c) := by
    intro n
    induction n with
    | zero => intro _ p hp; exact absurd hp List.not_mem_nil
    | succ n ih =>
      intro hn p hp y hy
      rw [outAt_succ sg x S ⟨n, hn⟩] at hp
      rcases List.mem_append.mp hp with hp | hp
      · simp only [outPieces, List.mem_cons, List.not_mem_nil, or_false] at hp
        rcases hp with rfl | rfl
        · exact hit ⟨n, hn⟩ 1 _ (k1_off4_inb _) (k1_off4_eq _) y hy
        · exact hit ⟨n, hn⟩ 0 _ (k1_off2_inb _) (k1_off2_eq _) y hy
      · exact ih (Nat.le_of_succ_le hn) p hp y hy
  exact key _ le_rfl

end Cert.KernelIdeal.Hand

end
-- ==== Proof.Values.Scan.lean ====
module

public import proofs.«01_k».proof.Proof.KernelIdeal.Scan
public import proofs.«01_k».proof.Proof.Values.Block

@[expose] public section

set_option maxRecDepth 16384

noncomputable section

namespace Cert.KernelIdeal.Hand

open Cert.KernelIdeal.Gen
open Idealize.ShloMosaic Idealize.ShloMosaic.TcCoe Idealize.SL.Sem
open Idealize.ShloMosaic.Pipeline (Dat)

/-! # The scan call over the extended reals -/

variable (V : (c : Dev nD) → (b : Ref sig .tc) → Buf (Elt Ideal) ((c : Thread nD τ).loc b)) (c : Dev nD)

theorem idx1 : ∀ t : Fin cfg1.N, win1_0.index t = ![0, t.val, 0, 0] ∧ win1_1.index t = ![0, t.val, 0, 0]
    ∧ win1_2.index t = ![0, t.val, 0] ∧ win1_3.index t = ![0, t.val, 0] ∧ win1_4.index t = ![0, t.val, 0]
    ∧ win1_5.index t = ![0, 0, 0] ∧ win1_6.index t = ![0, 0] ∧ win1_7.index t = ![0, t.val, 0] ∧ win1_8.index t = ![0, 0, 0]
    ∧ t.val < 8 :=
  (by decide +kernel : ∀ t : Fin grid1.N, _)

/-- Token `u` of block `t`. -/
abbrev tokenOf (t : Fin cfg1.N) (u : Fin 128) : Fin 1024 := ⟨128 * t.val + u.val, by have := (idx1 t).2.2.2.2.2.2.2.2.2; omega⟩

/-- The arrays the call reads. -/
abbrev keysIn : FVec Ideal S2x1024x16x64 .bf16 := V c main_v9
abbrev queriesIn : FVec Ideal S2x1024x16x64 .bf16 := V c main_v10
abbrev valuesIn : FVec Ideal S2x1024x1024 .f32 := V c main_v11
abbrev decaysIn : FVec Ideal S2x1024x1024 .f32 := V c main_v12
abbrev gainsIn : FVec Ideal S2x1024x1024 .f32 := V c main_v13
abbrev stateIn : FVec Ideal S2x64x1024 .f32 := V c main_v15
abbrev segIn : FVec Ideal S16x1024 .bf16 := V c main_v1

theorem blk_keys (t : Fin cfg1.N) (b : Fin 2) (u : Fin 128) (h : Fin 16) (k : Fin 64) :
    (show FVec Ideal S2x128x16x64 .bf16 from iblk1 V c 0 t) (ix4 b u h k) = keysIn V c (ix4 b (tokenOf t u) h k) := by
  blk_ext [iblk1, idx1 t]
theorem blk_queries (t : Fin cfg1.N) (b : Fin 2) (u : Fin 128) (h : Fin 16) (k : Fin 64) :
    (show FVec Ideal S2x128x16x64 .bf16 from iblk1 V c 1 t) (ix4 b u h k) = queriesIn V c (ix4 b (tokenOf t u) h k) := by
  blk_ext [iblk1, idx1 t]
theorem blk_values (t : Fin cfg1.N) (b : Fin 2) (u : Fin 128) (l : Fin 1024) :
    (show FVec Ideal S2x128x1024 .f32 from iblk1 V c 2 t) (ix3 b u l) = valuesIn V c (ix3 b (tokenOf t u) l) := by
  blk_ext [iblk1, idx1 t]
theorem blk_decays (t : Fin cfg1.N) (b : Fin 2) (u : Fin 128) (l : Fin 1024) :
    (show FVec Ideal S2x128x1024 .f32 from iblk1 V c 3 t) (ix3 b u l) = decaysIn V c (ix3 b (tokenOf t u) l) := by
  blk_ext [iblk1, idx1 t]
theorem blk_gains (t : Fin cfg1.N) (b : Fin 2) (u : Fin 128) (l : Fin 1024) :
    (show FVec Ideal S2x128x1024 .f32 from iblk1 V c 4 t) (ix3 b u l) = gainsIn V c (ix3 b (tokenOf t u) l) := by
  blk_ext [iblk1, idx1 t]
theorem blk_state (t : Fin cfg1.N) (b : Fin 2) (k : Fin 64) (l : Fin 1024) :
    (show FVec Ideal S2x64x1024 .f32 from iblk1 V c 5 t) (ix3 b k l) = stateIn V c (ix3 b k l) := by
  blk_ext [iblk1, idx1 t]
theorem blk_seg (t : Fin cfg1.N) (h : Fin 16) (l : Fin 1024) :
    (show FVec Ideal S16x1024 .bf16 from iblk1 V c 6 t) (ix2 h l) = segIn V c (ix2 h l) := by
  blk_ext [iblk1, idx1 t]

theorem cell_congr {col key key' : Fin 64 → EReal} {v v' a a' b b' : EReal} (hk : ∀ k, key k = key' k) (hv : v = v')
    (ha : a = a') (hb : b = b') : cell col key v a b = cell col key' v' a' b' := by
  rw [show key = key' from funext hk, hv, ha, hb]

/-- The columns `T` follow the recurrence of the arrays the call reads. -/
structure Follows (T : ℕ → Fin 2 → Fin 1024 → Fin 64 → EReal) : Prop where
  start : ∀ b k l, stateIn V c (ix3 b k l) = T 0 b l k
  step : ∀ (s : Fin 1024) b l, cell (T s.val b l) (fun k => keysIn V c (ix4 b s (headOf l) k)) (valuesIn V c (ix3 b s l))
    (decaysIn V c (ix3 b s l)) (gainsIn V c (ix3 b s l)) = T (s.val + 1) b l

variable {V c}
variable (hseg : IsSeg (segIn V c)) {T : ℕ → Fin 2 → Fin 1024 → Fin 64 → EReal} (hT : Follows V c T)
include hT in
theorem step_block (t : Fin cfg1.N) (u : Fin k1_t1_loop.trips) (b : Fin 2) (l : Fin 1024) :
    (rowsAt (blocksAt V c t) u b).col l (T (128 * t.val + u.val) b l) = T (128 * t.val + u.val + 1) b l := by
  refine Eq.trans ?_ (hT.step (tokenOf t (tok u)) b l)
  unfold Rows.col
  rw [rowsAt_value, rowsAt_decay, rowsAt_gain, show (rowsAt (blocksAt V c t) u b).key l = _ from funext fun k => rowsAt_key _ u b l k]
  exact cell_congr (fun k => blk_keys V c t b (tok u) _ k) (blk_values V c t b (tok u) l)
    (blk_decays V c t b (tok u) l) (blk_gains V c t b (tok u) l)

include hseg in
theorem seg_block (t : Fin cfg1.N) : IsSeg (show FVec Ideal S16x1024 .bf16 from iblk1 V c 6 t) :=
  fun h l => (blk_seg V c t h l).trans (hseg h l)

include hseg hT

/-- The state before block `n`. -/
theorem scanSt_apply : ∀ n, n ≤ 8 → ∀ (b : Fin 2) (k : Fin 64) (l : Fin 1024), scanSt V c n (ix3 b k l) = T (128 * n) b l k
  | 0, _, b, k, l => (blk_state V c t1_0 b k l).trans (hT.start b k l)
  | n + 1, hn, b, k, l => by
    have hlt : n < cfg1.N := Nat.lt_of_lt_of_eq hn N_1.symm
    rw [scanSt_succ V c ⟨n, hlt⟩]
    exact stateAt_apply (seg_block hseg ⟨n, hlt⟩) (blocksAt V c ⟨n, hlt⟩) (scanSt V c n) T (128 * n)
      (fun b k l => scanSt_apply n (Nat.le_of_succ_le hn) b k l) (step_block hT ⟨n, hlt⟩) k1_t1_loop.trips le_rfl b k l

/-- The output array: each token's columns after it against its queries. -/
theorem arr1_7 (b : Fin 2) (s : Fin 1024) (l : Fin 1024) :
    (show FVec Ideal S2x1024x1024 .f32 from (dat1 V c).arrAt 7 cfg1.N) (ix3 b s l)
      = ∑ k, T (s.val + 1) b l k * queriesIn V c (ix4 b s (headOf l) k) := by
  have h : (dat1 V c).arrAt 7 cfg1.N = (show FVec Ideal S2x1024x1024 .f32 from fun i =>
      ∑ k, T ((i 1).val + 1) (i 0) (i 2) k * queriesIn V c (ix4 (i 0) (i 1) (headOf (i 2)) k)) := by
    refine (dat1 V c).arrAt_eq_of_covers 7 _ (by decide +kernel) fun t _ y => ?_
    blk_simp
    rw [after1_7]
    obtain ⟨y0, y1, y2, rfl⟩ : ∃ y0 y1 y2, y = (ix3 y0 y1 y2 : S2x128x1024.Idx) := ⟨_, _, _, eq_ix3 y⟩
    have he : (win1_7.blk t).view.emb (ix3 y0 y1 y2 : S2x128x1024.Idx) = (ix3 y0 (tokenOf t y1) y2 : S2x1024x1024.Idx) := by
      funext a
      refine Fin.ext ?_
      have hi := (idx1 t).2.2.2.2.2.2.2.1
      fin_cases a
      · show win1_7.index t 0 * 2 + 1 * y0.val = y0.val
        rw [hi]
        show 0 * 2 + 1 * y0.val = y0.val
        omega
      · show win1_7.index t 1 * 128 + 1 * y1.val = 128 * t.val + y1.val
        rw [hi]
        show t.val * 128 + 1 * y1.val = 128 * t.val + y1.val
        omega
      · show win1_7.index t 2 * 1024 + 1 * y2.val = y2.val
        rw [hi]
        show 0 * 1024 + 1 * y2.val = y2.val
        omega
    have hn : win1_7.index t 1 * 128 + y1.val + 1 = 128 * t.val + y1.val + 1 := by
      rw [(idx1 t).2.2.2.2.2.2.2.1]
      show t.val * 128 + y1.val + 1 = _
      omega
    rw [he]
    show _ = ∑ k, T (win1_7.index t 1 * 128 + y1.val + 1) y0 y2 k * queriesIn V c (ix4 y0 (tokenOf t y1) (headOf y2) k)
    rw [hn]
    have hu : y1.val < k1_t1_loop.trips := Nat.lt_of_lt_of_eq y1.isLt trips_eq.symm
    refine (outBlock_apply (seg_block hseg t) (blocksAt V c t) (scanSt V c t.val) T (128 * t.val)
      (fun b k l => scanSt_apply hseg hT t.val (Nat.le_of_lt (idx1 t).2.2.2.2.2.2.2.2.2) b k l) (step_block hT t) ⟨y1.val, hu⟩ y0 y2).trans ?_
    have hcol := step_block hT t ⟨y1.val, hu⟩ y0 y2
    exact Finset.sum_congr rfl fun k _ => congrArg₂ (· * ·) (congrFun hcol k)
      ((rowsAt_query (blocksAt V c t) ⟨y1.val, hu⟩ y0 y2 k).trans (blk_queries V c t y0 y1 (headOf y2) k))
  exact congrFun h (ix3 b s l)

/-- The state array: the columns after the last token. -/
theorem arr1_8 (b : Fin 2) (k : Fin 64) (l : Fin 1024) :
    (show FVec Ideal S2x64x1024 .f32 from (dat1 V c).arrAt 8 cfg1.N) (ix3 b k l) = T 1024 b l k := by
  have h : (dat1 V c).arrAt 8 cfg1.N = (show FVec Ideal S2x64x1024 .f32 from fun i => T 1024 (i 0) (i 2) (i 1)) := by
    refine (dat1 V c).arrAt_eq_of_after_last 8 t1_7 (by decide +kernel) _ fun j => ?_
    blk_simp
    rw [after1_8]
    obtain ⟨y0, y1, y2, rfl⟩ : ∃ y0 y1 y2, j = (ix3 y0 y1 y2 : S2x64x1024.Idx) := ⟨_, _, _, eq_ix3 j⟩
    exact stateAt_apply (seg_block hseg t1_7) (blocksAt V c t1_7) (scanSt V c 7) T (128 * 7)
      (fun b k l => scanSt_apply hseg hT 7 (by decide) b k l) (step_block hT t1_7) k1_t1_loop.trips le_rfl y0 y1 y2
  exact congrFun h (ix3 b k l)

end Cert.KernelIdeal.Hand

end
-- ==== Proof.Values.Out.lean ====
module

public import proofs.«01_k».proof.Proof.KernelIdeal.Out
public import Idealize.ShloMosaic.Lib.Pipeline.ValueKit
public import Idealize.ShloMosaic.Lib.Pointwise

@[expose] public section

set_option maxRecDepth 16384

noncomputable section

namespace Cert.KernelIdeal.Hand

open Cert.KernelIdeal.Gen
open Idealize.ShloMosaic Idealize.ShloMosaic.TcCoe Idealize.SL.Sem
open Idealize.ShloMosaic.Pipeline (Dat)

/-! # The last projection over the extended reals -/

theorem pay_out_apply (x : FVec Ideal S512x1024 .bf16) (w : FVec Ideal S1024x1024 .bf16) (r : Fin 512) (j : Fin 1024) :
    k2_pay1 (F := Ideal) x w (ix2 r j) = (∑ i, x (ix2 r i) * w (ix2 i j) : EReal) := by
  pointwise [k2_pay1]

theorem out2_2_eq (x : Vec Ideal S512x1024 .bf16) (w : Vec Ideal S1024x1024 .bf16) : out2_2 (F := Ideal) x w = k2_pay1 x w := by
  have z : (![0, 0] : Fin 2 → ℕ) = fun _ => 0 := by funext a; fin_cases a <;> rfl
  have h0 : View.ld x r2_0 = x := View.ld_unit_zero (S := S512x1024) z _ x
  have h1 : View.ld w r2_1 = w := View.ld_unit_zero (S := S1024x1024) z _ w
  unfold out2_2
  rw [h0, h1]
  exact View.canon_unit_zero (S := S512x1024) z _ _

variable (V : (c : Dev nD) → (b : Ref sig .tc) → Buf (Elt Ideal) ((c : Thread nD τ).loc b)) (c : Dev nD)

theorem idx2 : ∀ t : Fin cfg2.N, win2_0.index t = ![t.val, 0] ∧ win2_1.index t = ![0, 0] ∧ win2_2.index t = ![t.val, 0] ∧ t.val < 4 :=
  (by decide +kernel : ∀ t : Fin grid2.N, _)

/-- Row `r` of block `t`. -/
abbrev productRow (t : Fin cfg2.N) (r : Fin 512) : Fin 2048 := ⟨512 * t.val + r.val, by have := (idx2 t).2.2.2; omega⟩

abbrev readsIn : FVec Ideal S2048x1024 .bf16 := V c main_v18
abbrev woIn : FVec Ideal S1024x1024 .bf16 := V c main_v19

theorem blk2_reads (t : Fin cfg2.N) (r : Fin 512) (i : Fin 1024) : iblk2 V c 0 t (ix2 r i : S512x1024.Idx) = readsIn V c (ix2 (productRow t r) i) := by
  blk_ext [iblk2, idx2 t]
theorem blk2_wo (t : Fin cfg2.N) : iblk2 V c 1 t = woIn V c := by
  funext i; blk_ext [iblk2, idx2 t]

theorem point2_2 (t : Fin cfg2.N) (r : Fin 512) (j : Fin 1024) :
    (show FVec Ideal S512x1024 .f32 from (dat2 V c).after 2 t) (ix2 r j) = ∑ i, readsIn V c (ix2 (productRow t r) i) * woIn V c (ix2 i j) := by
  refine (congrFun ((after2_2 V c t).trans (out2_2_eq _ _)) (ix2 r j)).trans ?_
  rw [blk2_wo V c t]
  refine (pay_out_apply _ _ r j).trans ?_
  exact Finset.sum_congr rfl fun i _ => congrArg (· * _) (blk2_reads V c t r i)

theorem arr2_2 (r : Fin 2048) (j : Fin 1024) :
    (show FVec Ideal S2048x1024 .f32 from (dat2 V c).arrAt 2 cfg2.N) (ix2 r j) = ∑ i, readsIn V c (ix2 r i) * woIn V c (ix2 i j) := by
  refine congrFun (f := (dat2 V c).arrAt 2 cfg2.N)
    (g := show FVec Ideal S2048x1024 .f32 from fun i => ∑ k, readsIn V c (ix2 (i 0) k) * woIn V c (ix2 k (i 1)))
    ((dat2 V c).arrAt_eq_of_covers 2 _ (by decide +kernel) fun t _ y => ?_) (ix2 r j)
  obtain ⟨y0, y1, rfl⟩ : ∃ y0 y1, y = (ix2 y0 y1 : S512x1024.Idx) := ⟨_, _, eq_ix2 y⟩
  refine (point2_2 V c t y0 y1).trans ?_
  have he : ((cfg2.win 2).blk t).view.emb (ix2 y0 y1 : S512x1024.Idx) = ix2 (productRow t y0) y1 := by
    funext a
    refine Fin.ext ?_
    fin_cases a
    · show win2_2.index t 0 * 512 + 1 * y0.val = 512 * t.val + y0.val
      rw [(idx2 t).2.2.1]
      show t.val * 512 + 1 * y0.val = 512 * t.val + y0.val
      omega
    · show win2_2.index t 1 * 1024 + 1 * y1.val = y1.val
      rw [(idx2 t).2.2.1]
      show 0 * 1024 + 1 * y1.val = y1.val
      omega
  rw [he]
  rfl

end Cert.KernelIdeal.Hand

end
-- ==== Proof.Values.Table.lean ====
module

public import proofs.«01_k».proof.Proof.Gen.KernelIdeal.Launch

@[expose] public section

set_option maxRecDepth 16384

namespace Cert.KernelIdeal.Hand

/-- The table of heads: entry `n` is of lane `n / 16` and head `n % 16`, one where the lane is the head's. -/
theorem table_apply : ∀ n : Fin 16384, lit0 n = if n.val / 16 / 64 = n.val % 16 then 0x3F800000#32 else 0#32 := by
  decide +kernel

end Cert.KernelIdeal.Hand

end
-- ==== Proof.Values.Host.lean ====
module

public import proofs.«01_k».proof.Proof.Gen.KernelIdeal.Launch
public import proofs.«01_k».proof.Proof.Values.Spec
public import proofs.«01_k».proof.Proof.Values.Table
public import Idealize.ShloMosaic.Lib.StableHlo.RunRead
public import Idealize.ShloMosaic.Lib.Pipeline.ValueKit
public import Idealize.ShloMosaic.Lib.Pointwise

@[expose] public section

set_option maxRecDepth 16384

noncomputable section

namespace Cert.KernelIdeal.Hand

open Cert.KernelIdeal.Gen
open Idealize.ShloMosaic Idealize.ShloMosaic.TcCoe Idealize.SL.Sem Idealize.ShloMosaic.StableHlo
open Cert.Delta (lane head within)

/-! # What the host's operations leave, over the extended reals, of the buffers they start from -/

/-- Token `s` of batch `b`, as a row. -/
abbrev seat (b : Fin 2) (s : Fin 1024) : Fin 2048 := ⟨b.val * 1024 + s.val, by omega⟩

theorem seat_batch (b : Fin 2) (s : Fin 1024) (h) : (⟨(b.val * 1024 + s.val) / 1024, h⟩ : Fin 2) = b :=
  Fin.ext (show (b.val * 1024 + s.val) / 1024 = b.val by omega)
theorem seat_step (b : Fin 2) (s : Fin 1024) (h) : (⟨(b.val * 1024 + s.val) % 1024, h⟩ : Fin 1024) = s :=
  Fin.ext (show (b.val * 1024 + s.val) % 1024 = s.val by omega)

/-- A mark as a number. -/
theorem mark_float (x : BitVec 1) : FloatOps.uitofp (F := Ideal) .f32 x = if x = 1#1 then 1 else 0 := by
  rcases BitVec.eq_zero_or_eq_one x with rfl | rfl <;> simp [FloatOps.uitofp]

variable (W : Valuation τ sig (Elt Ideal))

theorem host0_table (l : Fin 1024) (h : Fin 16) :
    (show FVec Ideal S1024x16 .f32 from StableHlo.after hostOps0 W main_cst) (ix2 l h) = if l.val / 64 = h.val then 1 else 0 := by
  have hl := l.isLt
  have hh := h.isLt
  have e : (show FVec Ideal S1024x16 .f32 from StableHlo.after hostOps0 W main_cst)
      = fun i => FloatOps.ofBits .f32 (lit0 (S1024x16.rowMajor i)) := by after_reads_simp; rfl
  rw [e]
  have hr : (S1024x16.rowMajor (ix2 l h)).val = 16 * l.val + h.val := by
    rw [rowMajor_val2 _ 16 rfl]; show l.val * 16 + h.val = _; omega
  refine (congrArg (FloatOps.ofBits (F := Ideal) .f32) (table_apply (S1024x16.rowMajor (ix2 l h)))).trans ?_
  rw [hr, show (16 * l.val + h.val) / 16 = l.val by omega, show (16 * l.val + h.val) % 16 = h.val by omega]
  by_cases hc : l.val / 64 = h.val
  · rw [if_pos hc, if_pos hc]
    pointwise
  · rw [if_neg hc, if_neg hc]
    pointwise

theorem host0_turned (l : Fin 1024) (h : Fin 16) :
    (show FVec Ideal S16x1024 .f32 from StableHlo.after hostOps0 W main_v0) (ix2 h l) = if l.val / 64 = h.val then 1 else 0 := by
  refine Eq.trans ?_ (host0_table W l h)
  after_reads_simp
  pointwise

theorem host0_seg (l : Fin 1024) (h : Fin 16) :
    (show FVec Ideal S16x1024 .bf16 from StableHlo.after hostOps0 W main_v1) (ix2 h l) = if l.val / 64 = h.val then 1 else 0 := by
  refine Eq.trans ?_ (host0_table W l h)
  after_reads_simp
  pointwise

theorem host0_rows (b : Fin 2) (s i : Fin 1024) :
    (show FVec Ideal S2048x1024 .f32 from StableHlo.after hostOps0 W main_v2) (ix2 (seat b s) i)
      = (show FVec Ideal S2x1024x1024 .f32 from W main_arg0) (ix3 b s i) := by
  after_reads_simp
  pointwise [seat_batch, seat_step]

theorem host0_gate_lo (i : Fin 1024) (h : Fin 16) :
    (show FVec Ideal S1024x32 .f32 from StableHlo.after hostOps0 W main_v3) (ix2 i ⟨h.val, by omega⟩)
      = (show FVec Ideal S1024x16 .f32 from W main_arg4) (ix2 i h) := by
  after_reads_simp
  pointwise
theorem host0_gate_hi (i : Fin 1024) (h : Fin 16) :
    (show FVec Ideal S1024x32 .f32 from StableHlo.after hostOps0 W main_v3) (ix2 i ⟨16 + h.val, by omega⟩)
      = (show FVec Ideal S1024x16 .f32 from W main_arg6) (ix2 i h) := by
  after_reads_simp
  pointwise
theorem host0_bias_lo (h : Fin 16) :
    (show FVec Ideal S1x32 .f32 from StableHlo.after hostOps0 W main_v5) (ix2 0 ⟨h.val, by omega⟩)
      = (show FVec Ideal S16 .f32 from W main_arg5) (ix1 h) := by
  after_reads_simp
  pointwise
  after_reads_simp
theorem host0_bias_hi (h : Fin 16) :
    (show FVec Ideal S1x32 .f32 from StableHlo.after hostOps0 W main_v5) (ix2 0 ⟨16 + h.val, by omega⟩)
      = (show FVec Ideal S16 .f32 from W main_arg7) (ix1 h) := by
  after_reads_simp
  pointwise
  after_reads_simp

theorem host0_marks (b : Fin 2) (s : Fin 1024) :
    (show FVec Ideal S2048x1 .f32 from StableHlo.after hostOps0 W main_v7) (ix2 (seat b s) 0)
      = if (show S2x1024.Idx → BitVec 1 from W main_arg10) (ix2 b s) = 1#1 then 1 else 0 := by
  after_reads_simp
  pointwise [seat_batch, seat_step]
  exact mark_float _

theorem host1_keys (b : Fin 2) (s : Fin 1024) (h : Fin 16) (d : Fin 64) :
    (show FVec Ideal S2x1024x16x64 .bf16 from StableHlo.after hostOps1 W main_v9) (ix4 b s h d)
      = (show FVec Ideal S2048x1024 .bf16 from W main_v8_1) (ix2 (seat b s) (lane h d)) := by
  after_reads_simp
  pointwise
theorem host1_queries (b : Fin 2) (s : Fin 1024) (h : Fin 16) (d : Fin 64) :
    (show FVec Ideal S2x1024x16x64 .bf16 from StableHlo.after hostOps1 W main_v10) (ix4 b s h d)
      = (show FVec Ideal S2048x1024 .bf16 from W main_v8_0) (ix2 (seat b s) (lane h d)) := by
  after_reads_simp
  pointwise
theorem host1_values (b : Fin 2) (s l : Fin 1024) :
    (show FVec Ideal S2x1024x1024 .f32 from StableHlo.after hostOps1 W main_v11) (ix3 b s l)
      = (show FVec Ideal S2048x1024 .f32 from W main_v8_2) (ix2 (seat b s) l) := by
  after_reads_simp
  pointwise
theorem host1_decays (b : Fin 2) (s l : Fin 1024) :
    (show FVec Ideal S2x1024x1024 .f32 from StableHlo.after hostOps1 W main_v12) (ix3 b s l)
      = (show FVec Ideal S2048x1024 .f32 from W main_v8_3) (ix2 (seat b s) l) := by
  after_reads_simp
  pointwise
theorem host1_gains (b : Fin 2) (s l : Fin 1024) :
    (show FVec Ideal S2x1024x1024 .f32 from StableHlo.after hostOps1 W main_v13) (ix3 b s l)
      = (show FVec Ideal S2048x1024 .f32 from W main_v8_4) (ix2 (seat b s) l) := by
  after_reads_simp
  pointwise
theorem host1_state (b : Fin 2) (k : Fin 64) (l : Fin 1024) :
    (show FVec Ideal S2x64x1024 .f32 from StableHlo.after hostOps1 W main_v15) (ix3 b k l)
      = (show FVec Ideal S2x16x64x64 .f32 from W main_arg9) (ix4 b (head l) (within l) k) := by
  after_reads_simp
  pointwise

theorem host2_reads (b : Fin 2) (s l : Fin 1024) :
    (show FVec Ideal S2048x1024 .bf16 from StableHlo.after hostOps2 W main_v18) (ix2 (seat b s) l)
      = (show FVec Ideal S2x1024x1024 .f32 from W main_v16_0) (ix3 b s l) := by
  after_reads_simp
  pointwise [seat_batch, seat_step]
theorem host2_wo (i j : Fin 1024) :
    (show FVec Ideal S1024x1024 .bf16 from StableHlo.after hostOps2 W main_v19) (ix2 i j)
      = (show FVec Ideal S1024x1024 .f32 from W main_arg8) (ix2 i j) := by
  after_reads_simp
  pointwise

theorem host3_out (b : Fin 2) (s j : Fin 1024) :
    (show FVec Ideal S2x1024x1024 .f32 from StableHlo.after hostOps3 W main_v21) (ix3 b s j)
      = (show FVec Ideal S2048x1024 .f32 from W main_v20) (ix2 (seat b s) j) := by
  after_reads_simp
  pointwise
theorem host3_state (b : Fin 2) (h : Fin 16) (v k : Fin 64) :
    (show FVec Ideal S2x16x64x64 .f32 from StableHlo.after hostOps3 W main_v23) (ix4 b h v k)
      = (show FVec Ideal S2x64x1024 .f32 from W main_v16_1) (ix3 b k (lane h v)) := by
  after_reads_simp
  pointwise

end Cert.KernelIdeal.Hand

end
-- ==== Proof.Values.Bounds.lean ====
module

public import proofs.«01_k».proof.Proof.Values.Spec

@[expose] public section

noncomputable section

namespace Cert.Delta.Layer

/-! # The state stays within the clip bounds -/

variable {L : Layer} (hin : ∀ b h v k, L.mask b 0 = 1#1 ∨ low ≤ L.state b h v k ∧ L.state b h v k ≤ high) (hlh : low ≤ high)
include hin hlh

/-- After a token, and before the first one when it does not count, the state is within the bounds. -/
theorem within_bounds : ∀ (n : ℕ) (b : Fin 2) (h : Fin 16) (v k : Fin 64), 0 < n ∨ L.mask b 0 ≠ 1#1 →
    low ≤ L.after n b h v k ∧ L.after n b h v k ≤ high
  | 0, b, h, v, k, hn => (hin b h v k).resolve_left (hn.resolve_left (Nat.lt_irrefl 0))
  | n + 1, b, h, v, k, _ => by
    have hup : ∀ x : EReal, low ≤ min high (max low x) ∧ min high (max low x) ≤ high :=
      fun x => ⟨le_min hlh (le_max_left _ _), min_le_left _ _⟩
    unfold after
    split
    · rename_i hlt
      split
      · exact hup _
      · rename_i hm
        refine within_bounds n b h v k ?_
        rcases Nat.eq_zero_or_pos n with rfl | hpos
        · exact .inr hm
        · exact .inl hpos
    · rename_i hge
      exact within_bounds n b h v k (.inl (by omega))

/-- Before a token that does not count the state is within the bounds. -/
theorem bounds_of_unmarked (s : Fin 1024) (b : Fin 2) (h : Fin 16) (v k : Fin 64) (hm : L.mask b s ≠ 1#1) :
    low ≤ L.after s.val b h v k ∧ L.after s.val b h v k ≤ high := by
  refine within_bounds hin hlh s.val b h v k ?_
  rcases Nat.eq_zero_or_pos s.val with h0 | hpos
  · exact .inr (by rwa [show s = 0 from Fin.ext h0] at hm)
  · exact .inl hpos

end Cert.Delta.Layer

end
-- ==== Proof.Values.Kernel.lean ====
module

public import proofs.«01_k».proof.Proof.KernelIdeal.Run
public import proofs.«01_k».proof.Proof.Values.Project
public import proofs.«01_k».proof.Proof.Values.Scan
public import proofs.«01_k».proof.Proof.Values.Out
public import proofs.«01_k».proof.Proof.Values.Host
public import proofs.«01_k».proof.Proof.Values.Bounds

@[expose] public section

set_option maxRecDepth 16384

noncomputable section

namespace Cert.KernelIdeal.Hand

open Cert.KernelIdeal.Gen
open Idealize.ShloMosaic Idealize.ShloMosaic.TcCoe Idealize.SL.Sem
open Cert.Delta (lane head within)

/-! # The kernel's results over the extended reals -/

variable (m : (ℓ : Loc nD τ sig) → Buf (Elt Ideal) ℓ) (ρ : Dev nD → PrngReg) (c : Dev nD)

/-- The layer the launch memory holds. -/
def layer : Cert.Delta.Layer where
  x b s i := (show FVec Ideal S2x1024x1024 .f32 from m ((c : Thread nD τ).loc main_arg0)) (ix3 b s i)
  wq i j := (show FVec Ideal S1024x1024 .f32 from m ((c : Thread nD τ).loc main_arg1)) (ix2 i j)
  wk i j := (show FVec Ideal S1024x1024 .f32 from m ((c : Thread nD τ).loc main_arg2)) (ix2 i j)
  wv i j := (show FVec Ideal S1024x1024 .f32 from m ((c : Thread nD τ).loc main_arg3)) (ix2 i j)
  wa i j := (show FVec Ideal S1024x16 .f32 from m ((c : Thread nD τ).loc main_arg4)) (ix2 i j)
  ba j := (show FVec Ideal S16 .f32 from m ((c : Thread nD τ).loc main_arg5)) (ix1 j)
  wb i j := (show FVec Ideal S1024x16 .f32 from m ((c : Thread nD τ).loc main_arg6)) (ix2 i j)
  bb j := (show FVec Ideal S16 .f32 from m ((c : Thread nD τ).loc main_arg7)) (ix1 j)
  wo i j := (show FVec Ideal S1024x1024 .f32 from m ((c : Thread nD τ).loc main_arg8)) (ix2 i j)
  state b h v k := (show FVec Ideal S2x16x64x64 .f32 from m ((c : Thread nD τ).loc main_arg9)) (ix4 b h v k)
  mask b s := (show S2x1024.Idx → BitVec 1 from m ((c : Thread nD τ).loc main_arg10)) (ix2 b s)

/-! ## The projection call's arrays -/

theorem laneHead : LaneHead (tableIn (V1 m ρ) c) := fun l h => host0_table (W0 m ρ c) l h
theorem headLane : HeadLane (turnedIn (V1 m ρ) c) := fun h l => host0_turned (W0 m ρ c) l h
theorem isSeg : IsSeg (segIn (V3 m ρ) c) := fun h l =>
  (congrFun ((W3_of m ρ c main_v1 (by decide)).trans (W2_of_ne m ρ c main_v1 (by decide))) (ix2 h l : S16x1024.Idx)).trans
    (host0_seg (W0 m ρ c) l h)

theorem row_wq (b : Fin 2) (s j : Fin 1024) :
    rowAll (rowsIn (V1 m ρ) c) (wqIn (V1 m ρ) c) (seat b s) j = (layer m c).project (layer m c).wq b s j :=
  Finset.sum_congr rfl fun i _ => congrArg₂ (· * ·) (host0_rows (W0 m ρ c) b s i)
    (congrFun (W1_args m ρ c main_arg1 (by decide)) (ix2 i j : S1024x1024.Idx))
theorem row_wk (b : Fin 2) (s j : Fin 1024) :
    rowAll (rowsIn (V1 m ρ) c) (wkIn (V1 m ρ) c) (seat b s) j = (layer m c).project (layer m c).wk b s j :=
  Finset.sum_congr rfl fun i _ => congrArg₂ (· * ·) (host0_rows (W0 m ρ c) b s i)
    (congrFun (W1_args m ρ c main_arg2 (by decide)) (ix2 i j : S1024x1024.Idx))
theorem row_wv (b : Fin 2) (s j : Fin 1024) :
    rowAll (rowsIn (V1 m ρ) c) (wvIn (V1 m ρ) c) (seat b s) j = (layer m c).project (layer m c).wv b s j :=
  Finset.sum_congr rfl fun i _ => congrArg₂ (· * ·) (host0_rows (W0 m ρ c) b s i)
    (congrFun (W1_args m ρ c main_arg3 (by decide)) (ix2 i j : S1024x1024.Idx))
theorem row_wa (b : Fin 2) (s : Fin 1024) (h : Fin 16) :
    rowAll (rowsIn (V1 m ρ) c) (gateIn (V1 m ρ) c) (seat b s) ⟨h.val, by omega⟩ = (layer m c).project (layer m c).wa b s h :=
  Finset.sum_congr rfl fun i _ => congrArg₂ (· * ·) (host0_rows (W0 m ρ c) b s i) (host0_gate_lo (W0 m ρ c) i h)
theorem row_wb (b : Fin 2) (s : Fin 1024) (h : Fin 16) :
    rowAll (rowsIn (V1 m ρ) c) (gateIn (V1 m ρ) c) (seat b s) ⟨16 + h.val, by omega⟩ = (layer m c).project (layer m c).wb b s h :=
  Finset.sum_congr rfl fun i _ => congrArg₂ (· * ·) (host0_rows (W0 m ρ c) b s i) (host0_gate_hi (W0 m ρ c) i h)
theorem bias_ba (h : Fin 16) : biasIn (V1 m ρ) c (ix2 0 ⟨h.val, by omega⟩) = (layer m c).ba h := host0_bias_lo (W0 m ρ c) h
theorem bias_bb (h : Fin 16) : biasIn (V1 m ρ) c (ix2 0 ⟨16 + h.val, by omega⟩) = (layer m c).bb h := host0_bias_hi (W0 m ρ c) h
theorem mark (b : Fin 2) (s : Fin 1024) :
    marksIn (V1 m ρ) c (ix2 (seat b s) 0) = if (layer m c).mask b s = 1#1 then 1 else 0 := host0_marks (W0 m ρ c) b s

/-- A head of a row over its norm. -/
theorem unitOf_lane {L : Cert.Delta.Layer} {w : Fin 1024 → Fin 1024 → EReal} {P : Fin 1024 → EReal} {b : Fin 2} {s : Fin 1024}
    (hP : ∀ j, P j = L.project w b s j) (h : Fin 16) (d : Fin 64) : unitOf P (lane h d) = L.unit w b s h d := by
  have hh : head (lane h d) = h := Fin.ext (show (h.val * 64 + d.val) / 64 = h.val by omega)
  unfold unitOf Cert.Delta.Layer.unit
  rw [hh]
  simp only [hP]

/-! ## What the scan call reads -/

theorem keys_eq (b : Fin 2) (s : Fin 1024) (h : Fin 16) (d : Fin 64) :
    keysIn (V3 m ρ) c (ix4 b s h d) = (layer m c).key b s h d :=
  (host1_keys (W2 m ρ c) b s h d).trans ((congrFun (W2_arr m ρ c 10) (ix2 (seat b s) (lane h d) : S2048x1024.Idx)).trans
    ((arr0_10 (laneHead m ρ c) (headLane m ρ c) (seat b s) (lane h d)).trans (unitOf_lane (row_wk m ρ c b s) h d)))

theorem queries_eq (b : Fin 2) (s : Fin 1024) (h : Fin 16) (d : Fin 64) :
    queriesIn (V3 m ρ) c (ix4 b s h d) = (layer m c).query b s h d * (if (layer m c).mask b s = 1#1 then 1 else 0) :=
  (host1_queries (W2 m ρ c) b s h d).trans ((congrFun (W2_arr m ρ c 9) (ix2 (seat b s) (lane h d) : S2048x1024.Idx)).trans
    ((arr0_9 (laneHead m ρ c) (headLane m ρ c) (seat b s) (lane h d)).trans
      (congrArg₂ (· * ·) (unitOf_lane (row_wq m ρ c b s) h d) (mark m ρ c b s))))

theorem lane_parts (l : Fin 1024) : lane (head l) (within l) = l := Fin.ext (show l.val / 64 * 64 + l.val % 64 = l.val by omega)

theorem values_eq (b : Fin 2) (s l : Fin 1024) :
    valuesIn (V3 m ρ) c (ix3 b s l) = (layer m c).value b s (head l) (within l) :=
  (host1_values (W2 m ρ c) b s l).trans ((congrFun (W2_arr m ρ c 11) (ix2 (seat b s) l : S2048x1024.Idx)).trans
    ((arr0_11 (seat b s) l).trans (congrArg Ideal.tanh ((row_wv m ρ c b s l).trans (by rw [lane_parts])))))

theorem decays_eq (b : Fin 2) (s l : Fin 1024) :
    decaysIn (V3 m ρ) c (ix3 b s l) = if (layer m c).mask b s = 1#1 then (layer m c).decay b s (head l) else 1 := by
  refine (host1_decays (W2 m ρ c) b s l).trans ((congrFun (W2_arr m ρ c 12) (ix2 (seat b s) l : S2048x1024.Idx)).trans
    ((arr0_12 (headLane m ρ c) (seat b s) l).trans ?_))
  rw [mark, row_wa m ρ c b s (head l), bias_ba m ρ c (head l)]
  by_cases hm : (layer m c).mask b s = 1#1
  · rw [if_pos hm, if_pos hm, if_pos zero_lt_one]; rfl
  · rw [if_neg hm, if_neg hm, if_neg (lt_irrefl _)]

theorem gains_eq (b : Fin 2) (s l : Fin 1024) :
    gainsIn (V3 m ρ) c (ix3 b s l) = if (layer m c).mask b s = 1#1 then (layer m c).gain b s (head l) else 0 := by
  refine (host1_gains (W2 m ρ c) b s l).trans ((congrFun (W2_arr m ρ c 13) (ix2 (seat b s) l : S2048x1024.Idx)).trans
    ((arr0_13 (headLane m ρ c) (seat b s) l).trans ?_))
  rw [mark, row_wb m ρ c b s (head l), bias_bb m ρ c (head l)]
  by_cases hm : (layer m c).mask b s = 1#1
  · rw [if_pos hm, if_pos hm, mul_one]; rfl
  · rw [if_neg hm, if_neg hm, mul_zero]

theorem state_eq (b : Fin 2) (k : Fin 64) (l : Fin 1024) :
    stateIn (V3 m ρ) c (ix3 b k l) = (layer m c).state b (head l) (within l) k :=
  (host1_state (W2 m ρ c) b k l).trans
    (congrFun (W2_args m ρ c main_arg9 (by decide)) (ix4 b (head l) (within l) k : S2x16x64x64.Idx))

/-! ## The recurrence -/

/-- The layer's state, a lane's column at a time. -/
abbrev column (L : Cert.Delta.Layer) (n : ℕ) (b : Fin 2) (l : Fin 1024) (k : Fin 64) : EReal := L.after n b (head l) (within l) k

/-- A token that counts: the kernel's entry is the layer's update. -/
theorem cell_update (col key : Fin 64 → EReal) (v a g : EReal) (k : Fin 64) :
    cell col key v a g k = Cert.Delta.Layer.update col key v a g k := by
  unfold cell Cert.Delta.Layer.update
  rw [min_comm, max_comm]
  congr 2
  rw [mul_comm _ g, mul_assoc]

/-- A token that does not: the entry stays, being within the clip bounds. -/
theorem cell_stay (col key : Fin 64 → EReal) (v : EReal) (k : Fin 64) (h : lo ≤ col k ∧ col k ≤ hi) :
    cell col key v 1 0 k = col k := by
  unfold cell
  rw [one_mul, mul_zero, zero_mul, add_zero, max_eq_left h.1, min_eq_left h.2]

variable (hin : ∀ b h v k, (layer m c).mask b 0 = 1#1 ∨ Cert.Delta.low ≤ (layer m c).state b h v k ∧ (layer m c).state b h v k ≤ Cert.Delta.high)
  (hlh : Cert.Delta.low ≤ Cert.Delta.high)
include hin hlh

theorem follows : Follows (V3 m ρ) c (column (layer m c)) where
  start b k l := state_eq m ρ c b k l
  step s b l := by
    rw [show (fun k => keysIn (V3 m ρ) c (ix4 b s (headOf l) k)) = (layer m c).key b s (head l) from
      funext fun k => keys_eq m ρ c b s (head l) k, values_eq, decays_eq, gains_eq]
    funext k
    refine Eq.trans ?_ ((layer m c).after_succ s b (head l) (within l) k).symm
    by_cases hm : (layer m c).mask b s = 1#1
    · rw [if_pos hm, if_pos hm, if_pos hm]
      exact cell_update _ _ _ _ _ k
    · rw [if_neg hm, if_neg hm, if_neg hm]
      exact cell_stay _ _ _ k (Cert.Delta.Layer.bounds_of_unmarked hin hlh s b (head l) (within l) k hm)

/-- What a token reads, at the last projection. -/
theorem reads_eq (b : Fin 2) (s l : Fin 1024) :
    readsIn (V5 m ρ) c (ix2 (seat b s) l) = (layer m c).read b s (head l) (within l) := by
  refine (host2_reads (W4 m ρ c) b s l).trans ((congrFun (W4_arr m ρ c 7) (ix3 b s l : S2x1024x1024.Idx)).trans
    ((arr1_7 (isSeg m ρ c) (follows m ρ c hin hlh) b s l).trans ?_))
  refine (Finset.sum_congr rfl fun k _ => congrArg (_ * ·) (queries_eq m ρ c b s (headOf l) k)).trans ?_
  unfold Cert.Delta.Layer.read
  by_cases hm : (layer m c).mask b s = 1#1
  · simp only [if_pos hm, mul_one]
  · simp only [if_neg hm, mul_zero, Finset.sum_const_zero]

theorem wo_eq (i j : Fin 1024) : woIn (V5 m ρ) c (ix2 i j) = (layer m c).wo i j :=
  (host2_wo (W4 m ρ c) i j).trans (congrFun (W4_args m ρ c main_arg8 (by decide)) (ix2 i j : S1024x1024.Idx))

/-- The first result. -/
theorem result_out (b : Fin 2) (s j : Fin 1024) :
    (show FVec Ideal S2x1024x1024 .f32 from W7 m ρ c main_v21) (ix3 b s j) = (layer m c).output b s j :=
  (host3_out (W6 m ρ c) b s j).trans ((congrFun (W6_arr m ρ c 2) (ix2 (seat b s) j : S2048x1024.Idx)).trans
    ((arr2_2 (V5 m ρ) c (seat b s) j).trans
      (Finset.sum_congr rfl fun i _ => congrArg₂ (· * ·) (reads_eq m ρ c hin hlh b s i) (wo_eq m ρ c hin hlh i j))))

/-- The second result. -/
theorem result_state (b : Fin 2) (h : Fin 16) (v k : Fin 64) :
    (show FVec Ideal S2x16x64x64 .f32 from W7 m ρ c main_v23) (ix4 b h v k) = (layer m c).after 1024 b h v k := by
  refine (host3_state (W6 m ρ c) b h v k).trans ((congrFun ((W6_of_ne m ρ c main_v16_1 (by decide)).trans
    ((W5_of m ρ c main_v16_1 (by decide)).trans (W4_arr m ρ c 8))) (ix3 b k (lane h v) : S2x64x1024.Idx)).trans
    ((arr1_8 (isSeg m ρ c) (follows m ρ c hin hlh) b k (lane h v)).trans ?_))
  show (layer m c).after 1024 b (head (lane h v)) (within (lane h v)) k = _
  rw [show head (lane h v) = h from Fin.ext (show (h.val * 64 + v.val) / 64 = h.val by omega),
    show within (lane h v) = v from Fin.ext (show (h.val * 64 + v.val) % 64 = v.val by omega)]

end Cert.KernelIdeal.Hand

end
-- ==== Proof.Values.Reference.lean ====
module

public import proofs.«01_k».proof.Proof.Gen.ReferenceIdeal.Run
public import proofs.«01_k».proof.Proof.Values.Spec
public import Idealize.ShloMosaic.Lib.Pipeline.ValueKit
public import Idealize.ShloMosaic.Lib.Pointwise
public import Idealize.ShloMosaic.Lib.DynamicIndex

@[expose] public section

set_option maxRecDepth 16384

noncomputable section

namespace Cert.ReferenceIdeal.Value

open Cert.ReferenceIdeal.Gen
open Idealize.ShloMosaic Idealize.ShloMosaic.TcCoe Idealize.SL.Sem Idealize.ShloMosaic.StableHlo

/-! # The reference over the extended reals -/

section Step

/-- The word of a token's number is the number. -/
theorem word_toInt (n : Fin 1024) : (BitVec.ofNat 32 n.val).toInt = (n.val : Int) := by
  rw [BitVec.toInt_ofNat']
  have := n.isLt
  simp only [Int.bmod]
  omega

/-- A token's row of a time-first array of heads, of scalars per head, of scalars. -/
theorem row_heads {φ : FTy} (x : FVec Ideal S1024x2x16x64 φ) (start : Fin 4 → Int) (n : Fin 1024)
    (hs : ∀ a, start a = ((![n.val, 0, 0, 0] : Fin 4 → ℕ) a : Int)) :
    shapeCast S2x16x64 (Host.dynamicSlice S1x2x16x64 x start sliceFits_S1024x2x16x64_S1x2x16x64) shapeCasts_S1x2x16x64_S2x16x64
      = fun i => x (ix4 n (i 0) (i 1) (i 2)) := by
  have hk : S1024x2x16x64.Slices (![n.val, 0, 0, 0] : Fin 4 → ℕ) S1x2x16x64 :=
    ⟨rfl, fun a => by have := n.isLt; fin_cases a <;> simp <;> omega⟩
  rw [Host.dynamicSlice_eq_extractStridedSlice S1x2x16x64 x start _ sliceFits_S1024x2x16x64_S1x2x16x64 hk hs]
  funext i
  pointwise
theorem row_scalars {φ : FTy} (x : FVec Ideal S1024x2x16 φ) (start : Fin 3 → Int) (n : Fin 1024)
    (hs : ∀ a, start a = ((![n.val, 0, 0] : Fin 3 → ℕ) a : Int)) :
    shapeCast S2x16 (Host.dynamicSlice S1x2x16 x start sliceFits_S1024x2x16_S1x2x16) shapeCasts_S1x2x16_S2x16
      = fun i => x (ix3 n (i 0) (i 1)) := by
  have hk : S1024x2x16.Slices (![n.val, 0, 0] : Fin 3 → ℕ) S1x2x16 :=
    ⟨rfl, fun a => by have := n.isLt; fin_cases a <;> simp <;> omega⟩
  rw [Host.dynamicSlice_eq_extractStridedSlice S1x2x16 x start _ sliceFits_S1024x2x16_S1x2x16 hk hs]
  funext i
  pointwise
theorem row_marks (x : S1024x2.Idx → BitVec 1) (start : Fin 2 → Int) (n : Fin 1024)
    (hs : ∀ a, start a = ((![n.val, 0] : Fin 2 → ℕ) a : Int)) :
    shapeCast S2 (Host.dynamicSlice S1x2 x start sliceFits_S1024x2_S1x2) shapeCasts_S1x2_S2 = fun i => x (ix2 n (i 0)) := by
  have hk : S1024x2.Slices (![n.val, 0] : Fin 2 → ℕ) S1x2 :=
    ⟨rfl, fun a => by have := n.isLt; fin_cases a <;> simp <;> omega⟩
  rw [Host.dynamicSlice_eq_extractStridedSlice S1x2 x start _ sliceFits_S1024x2_S1x2 hk hs]
  funext i
  pointwise

/-- The state after a trip, of the rows the trip reads. -/
def newState (mk : S2.Idx → BitVec 1) (a g : FVec Ideal S2x16 .f32) (S : FVec Ideal S2x16x64x64 .f32)
    (x y : FVec Ideal S2x16x64 .f32) : FVec Ideal S2x16x64x64 .f32 :=
  select (broadcastInDim S2x16x64x64 ![0, 1, 2, 3] bcast_S2x1x1x1_S2x16x64x64_0_1_2_3 (broadcastInDim S2x1x1x1 ![0] bcast_S2_S2x1x1x1_0 mk))
    (minimumf (broadcastInDim S2x16x64x64 ![] bcast_S_S2x16x64x64 (id (constant S_ .f32 0x40A00000#32)))
      (maximumf (broadcastInDim S2x16x64x64 ![] bcast_S_S2x16x64x64 (id (constant S_ .f32 0xC0A00000#32)))
        (addf (mulf (broadcastInDim S2x16x64x64 ![0, 1, 2, 3] bcast_S2x16x1x1_S2x16x64x64_0_1_2_3
            (broadcastInDim S2x16x1x1 ![0, 1] bcast_S2x16_S2x16x1x1_0_1 a)) S)
          (mulf (broadcastInDim S2x16x64x64 ![0, 1, 2, 3] bcast_S2x16x1x1_S2x16x64x64_0_1_2_3
            (broadcastInDim S2x16x1x1 ![0, 1] bcast_S2x16_S2x16x1x1_0_1 g))
            (mulf (broadcastInDim S2x16x64x64 ![0, 1, 2, 3] bcast_S2x16x64x1_S2x16x64x64_0_1_2_3
              (broadcastInDim S2x16x64x1 ![0, 1, 2] bcast_S2x16x64_S2x16x64x1_0_1_2
                (subf x (Host.dotGeneral dot_S2x16x64x64_S2x16x64_S2x16x64_3_2_2_n_01_01 none S y))))
              (broadcastInDim S2x16x64x64 ![0, 1, 2, 3] bcast_S2x16x1x64_S2x16x64x64_0_1_2_3
                (broadcastInDim S2x16x1x64 ![0, 1, 3] bcast_S2x16x64_S2x16x1x64_0_1_3 y))))))) S

theorem newState_apply {mk : S2.Idx → BitVec 1} {a g : FVec Ideal S2x16 .f32} {S : FVec Ideal S2x16x64x64 .f32}
    {x y : FVec Ideal S2x16x64 .f32} (b : Fin 2) (h : Fin 16) (v k : Fin 64) {p : BitVec 1} {a' g' x' : EReal} {y' : Fin 64 → EReal}
    (hmk : mk (ix1 b) = p) (ha : a (ix2 b h) = a') (hg : g (ix2 b h) = g') (hx : x (ix3 b h v) = x') (hy : ∀ j, y (ix3 b h j) = y' j) :
    newState mk a g S x y (ix4 b h v k) = if p = 1#1 then
        Cert.Delta.Layer.update (fun j => S (ix4 b h v j)) y' x' a' g' k
      else S (ix4 b h v k) := by
  obtain rfl : (fun j => y (ix3 b h j)) = y' := funext hy
  subst hmk ha hg hx
  unfold Cert.Delta.Layer.update newState
  simp only [id_eq]
  pointwise
  rfl

/-- The rows of what the tokens read, after a trip. -/
theorem newOut_apply (Y : FVec Ideal S1024x2x16x64 .f32) (mk : S2.Idx → BitVec 1) (S : FVec Ideal S2x16x64x64 .f32)
    (x : FVec Ideal S2x16x64 .f32) (start : Fin 4 → Int) (n : Fin 1024)
    (hs : ∀ a, start a = ((![n.val, 0, 0, 0] : Fin 4 → ℕ) a : Int)) (s : Fin 1024) (b : Fin 2) (h : Fin 16) (v : Fin 64)
    {p : BitVec 1} {x' : Fin 64 → EReal} (hmk : mk (ix1 b) = p) (hx : ∀ j, x (ix3 b h j) = x' j) :
    Host.dynamicUpdateSlice Y (broadcastInDim S1x2x16x64 ![1, 2, 3] bcast_S2x16x64_S1x2x16x64_1_2_3
      (select (broadcastInDim S2x16x64 ![0, 1, 2] bcast_S2x1x1_S2x16x64_0_1_2 (broadcastInDim S2x1x1 ![0] bcast_S2_S2x1x1_0 mk))
        (Host.dotGeneral dot_S2x16x64x64_S2x16x64_S2x16x64_3_2_2_n_01_01 none S x)
        (broadcastInDim S2x16x64 ![] bcast_S_S2x16x64 (constant S_ .f32 0x00000000#32)))) start updateFits_S1024x2x16x64_S1x2x16x64
        (ix4 s b h v)
      = if s = n then if p = 1#1 then ∑ k, S (ix4 b h v k) * x' k else 0 else Y (ix4 s b h v) := by
  have hk : S1024x2x16x64.Slices (![n.val, 0, 0, 0] : Fin 4 → ℕ) S1x2x16x64 :=
    ⟨rfl, fun a => by have := n.isLt; fin_cases a <;> simp <;> omega⟩
  obtain rfl : (fun j => x (ix3 b h j)) = x' := funext hx
  subst hmk
  rw [Host.dynamicUpdateSlice_eq_updateSlice _ _ start updateFits_S1024x2x16x64_S1x2x16x64 _
    (fun a => by rw [hs a]; have := hk.2 a; omega) hk]
  pointwise
  by_cases e : s = n
  · rw [if_pos e, dif_pos (by omega)]
    rfl
  · rw [if_neg e, dif_neg (by omega)]

variable (V0 : Valuation τ sig (Elt Ideal)) (n : Fin 1024)

/-- The carried arrays. -/
abbrev qs : FVec Ideal S1024x2x16x64 .f32 := V0 (Proc.devRef .tc main_v55_0)
abbrev ks : FVec Ideal S1024x2x16x64 .f32 := V0 (Proc.devRef .tc main_v55_1)
abbrev vs : FVec Ideal S1024x2x16x64 .f32 := V0 (Proc.devRef .tc main_v55_2)
abbrev al : FVec Ideal S1024x2x16 .f32 := V0 (Proc.devRef .tc main_v55_3)
abbrev gs : FVec Ideal S1024x2x16 .f32 := V0 (Proc.devRef .tc main_v55_4)
abbrev ms : S1024x2.Idx → BitVec 1 := V0 (Proc.devRef .tc main_v55_5)
abbrev st : FVec Ideal S2x16x64x64 .f32 := V0 (Proc.devRef .tc main_v55_7)
abbrev ys : FVec Ideal S1024x2x16x64 .f32 := V0 (Proc.devRef .tc main_v55_8)

variable  (h6 : V0 (Proc.devRef .tc main_v55_6) = fun _ => BitVec.ofNat 32 n.val)
include h6

theorem start4 : ∀ a, ((![V0 (Proc.devRef .tc main_v55_6), constantI S_ 32 0#32, constantI S_ 32 0#32, constantI S_ 32 0#32] :
    Fin 4 → (⟨S_, .i32⟩ : BufTy).Contents (Elt Ideal)) a (Shape.Idx.first h_S_)).toInt = ((![n.val, 0, 0, 0] : Fin 4 → ℕ) a : Int) := by
  intro a
  rw [h6]
  fin_cases a
  · exact word_toInt n
  all_goals rfl
theorem start3 : ∀ a, ((![V0 (Proc.devRef .tc main_v55_6), constantI S_ 32 0#32, constantI S_ 32 0#32] :
    Fin 3 → (⟨S_, .i32⟩ : BufTy).Contents (Elt Ideal)) a (Shape.Idx.first h_S_)).toInt = ((![n.val, 0, 0] : Fin 3 → ℕ) a : Int) := by
  intro a
  rw [h6]
  fin_cases a
  · exact word_toInt n
  all_goals rfl
theorem start2 : ∀ a, ((![V0 (Proc.devRef .tc main_v55_6), constantI S_ 32 0#32] :
    Fin 2 → (⟨S_, .i32⟩ : BufTy).Contents (Elt Ideal)) a (Shape.Idx.first h_S_)).toInt = ((![n.val, 0] : Fin 2 → ℕ) a : Int) := by
  intro a
  rw [h6]
  fin_cases a
  · exact word_toInt n
  all_goals rfl

theorem step_key : res_main_while0b_v60 V0 = (show FVec Ideal S2x16x64 .f32 from fun i => ks V0 (ix4 n (i 0) (i 1) (i 2))) :=
  row_heads (ks V0) _ n (start4 V0 n h6)
theorem step_mark : res_main_while0b_v64 V0 = (show S2.Idx → BitVec 1 from fun i => ms V0 (ix2 n (i 0))) :=
  row_marks (ms V0) _ n (start2 V0 n h6)

theorem step_state (b : Fin 2) (h : Fin 16) (v k : Fin 64) :
    (show FVec Ideal S2x16x64x64 .f32 from res_main_while0b_v81 V0) (ix4 b h v k)
      = if ms V0 (ix2 n b) = 1#1 then
          Cert.Delta.Layer.update (fun j => st V0 (ix4 b h v j)) (fun j => ks V0 (ix4 n b h j)) (vs V0 (ix4 n b h v))
            (al V0 (ix3 n b h)) (gs V0 (ix3 n b h)) k
        else st V0 (ix4 b h v k) := by
  exact newState_apply b h v k (congrFun (step_mark V0 n h6) (ix1 b)) (congrFun (row_scalars (al V0) _ n (start3 V0 n h6)) (ix2 b h))
    (congrFun (row_scalars (gs V0) _ n (start3 V0 n h6)) (ix2 b h)) (congrFun (row_heads (vs V0) _ n (start4 V0 n h6)) (ix3 b h v))
    (fun j => congrFun (step_key V0 n h6) (ix3 b h j))

theorem step_out (s : Fin 1024) (b : Fin 2) (h : Fin 16) (v : Fin 64) :
    (show FVec Ideal S1024x2x16x64 .f32 from step_main_v55_8 V0) (ix4 s b h v)
      = if s = n then
          if ms V0 (ix2 n b) = 1#1 then
            ∑ k, (show FVec Ideal S2x16x64x64 .f32 from res_main_while0b_v81 V0) (ix4 b h v k) * qs V0 (ix4 n b h k)
          else 0
        else ys V0 (ix4 s b h v) := by
  exact newOut_apply (ys V0) _ _ _ _ n (start4 V0 n h6) s b h v (congrFun (step_mark V0 n h6) (ix1 b))
    (fun j => congrFun (row_heads (qs V0) _ n (start4 V0 n h6)) (ix3 b h j))

end Step

section Entry
variable (m : (ℓ : Loc nD τ sig) → Buf (Elt Ideal) ℓ) (c : Dev nD)

/-- The layer at a launch memory. -/
def layer : Cert.Delta.Layer where
  x b s i := (show FVec Ideal S2x1024x1024 .f32 from m ((c : Thread nD τ).loc main_arg0)) (ix3 b s i)
  wq i j := (show FVec Ideal S1024x1024 .f32 from m ((c : Thread nD τ).loc main_arg1)) (ix2 i j)
  wk i j := (show FVec Ideal S1024x1024 .f32 from m ((c : Thread nD τ).loc main_arg2)) (ix2 i j)
  wv i j := (show FVec Ideal S1024x1024 .f32 from m ((c : Thread nD τ).loc main_arg3)) (ix2 i j)
  wa i j := (show FVec Ideal S1024x16 .f32 from m ((c : Thread nD τ).loc main_arg4)) (ix2 i j)
  ba j := (show FVec Ideal S16 .f32 from m ((c : Thread nD τ).loc main_arg5)) (ix1 j)
  wb i j := (show FVec Ideal S1024x16 .f32 from m ((c : Thread nD τ).loc main_arg6)) (ix2 i j)
  bb j := (show FVec Ideal S16 .f32 from m ((c : Thread nD τ).loc main_arg7)) (ix1 j)
  wo i j := (show FVec Ideal S1024x1024 .f32 from m ((c : Thread nD τ).loc main_arg8)) (ix2 i j)
  state b h v k := (show FVec Ideal S2x16x64x64 .f32 from m ((c : Thread nD τ).loc main_arg9)) (ix4 b h v k)
  mask b s := (show S2x1024.Idx → BitVec 1 from m ((c : Thread nD τ).loc main_arg10)) (ix2 b s)

theorem entry_value (s : Fin 1024) (b : Fin 2) (h : Fin 16) (v : Fin 64) :
   vs (entryContents preI m c) (ix4 s b h v) = (layer m c).value b s h v := by
  simp only [vs, entryContents, afterL_cons, afterL_nil]
  after_reads_simp
  simp only [id_eq]
  pointwise [Cert.Delta.Layer.value, layer]

theorem entry_query (s : Fin 1024) (b : Fin 2) (h : Fin 16) (v : Fin 64) :
   qs (entryContents preI m c) (ix4 s b h v) = (layer m c).query b s h v := by
  simp only [qs, entryContents, afterL_cons, afterL_nil]
  after_reads_simp
  simp only [id_eq]
  pointwise [Cert.Delta.Layer.query, Cert.Delta.Layer.unit, layer]

theorem entry_decay (s : Fin 1024) (b : Fin 2) (h : Fin 16) :
   al (entryContents preI m c) (ix3 s b h) = (layer m c).decay b s h := by
  simp only [al, entryContents, afterL_cons, afterL_nil]
  after_reads_simp
  simp only [id_eq]
  pointwise [Cert.Delta.Layer.decay, layer]
  rfl

theorem entry_key (s : Fin 1024) (b : Fin 2) (h : Fin 16) (v : Fin 64) :
   ks (entryContents preI m c) (ix4 s b h v) = (layer m c).key b s h v := by
  simp only [ks, entryContents, afterL_cons, afterL_nil]
  after_reads_simp
  simp only [id_eq]
  pointwise [Cert.Delta.Layer.key, Cert.Delta.Layer.unit, layer]

theorem entry_gain (s : Fin 1024) (b : Fin 2) (h : Fin 16) :
   gs (entryContents preI m c) (ix3 s b h) = (layer m c).gain b s h := by
  simp only [gs, entryContents, afterL_cons, afterL_nil]
  after_reads_simp
  simp only [id_eq]
  pointwise [Cert.Delta.Layer.gain, layer]
  rfl

theorem entry_mask (s : Fin 1024) (b : Fin 2) :
   ms (entryContents preI m c) (ix2 s b) = (layer m c).mask b s := by
  simp only [ms, entryContents, afterL_cons, afterL_nil]
  after_reads_simp
  simp only [id_eq]
  pointwise [layer]

theorem entry_state (b : Fin 2) (h : Fin 16) (v k : Fin 64) :
   st (entryContents preI m c) (ix4 b h v k) = (layer m c).state b h v k := by
  simp only [st, entryContents, afterL_cons, afterL_nil]
  after_reads_simp
  rfl

/-- What the loop carries before trip `n`. -/
abbrev trip (n : ℕ) : Valuation τ sig (Elt Ideal) := STEP^[n] (entryContents preI m c)

theorem trip_succ (n : ℕ) : trip m c (n + 1) = STEP (trip m c n) := Function.iterate_succ_apply' _ _ _

/-- What the loop does not change. -/
theorem trip_keeps (n : ℕ) : qs (trip m c n) = qs (entryContents preI m c) ∧ ks (trip m c n) = ks (entryContents preI m c)
    ∧ vs (trip m c n) = vs (entryContents preI m c) ∧ al (trip m c n) = al (entryContents preI m c)
    ∧ gs (trip m c n) = gs (entryContents preI m c) ∧ ms (trip m c n) = ms (entryContents preI m c) := by
  induction n with
  | zero => exact ⟨rfl, rfl, rfl, rfl, rfl, rfl⟩
  | succ n ih =>
    obtain ⟨h0, h1, h2, h3, h4, h5⟩ := ih
    unfold qs ks vs al gs ms at *
    rw [trip_succ]
    exact ⟨(STEP_main_v55_0 _).trans h0, (STEP_main_v55_1 _).trans h1, (STEP_main_v55_2 _).trans h2, (STEP_main_v55_3 _).trans h3,
      (STEP_main_v55_4 _).trans h4, (STEP_main_v55_5 _).trans h5⟩

theorem trip_counter (n : ℕ) : trip m c n (Proc.devRef .tc main_v55_6) = fun _ => BitVec.ofNat 32 n := by
  induction n with
  | zero => exact ctr_entry m c
  | succ n ih =>
    rw [trip_succ]
    refine (STEP_main_v55_6 _).trans ?_
    unfold step_main_v55_6
    rw [ih]
    funext i
    show BitVec.ofNat 32 n + 1#32 = BitVec.ofNat 32 (n + 1)
    rw [BitVec.ofNat_add]

/-- The carried state is the layer's. -/
theorem trip_state : ∀ (n : ℕ), n ≤ 1024 → ∀ (b : Fin 2) (h : Fin 16) (v k : Fin 64),
    st (trip m c n) (ix4 b h v k) = (layer m c).after n b h v k
  | 0, _, b, h, v, k => entry_state m c b h v k
  | n + 1, hn, b, h, v, k => by
    have hs : st (trip m c (n + 1)) = res_main_while0b_v81 (trip m c n) := by
      unfold st
      rw [trip_succ]
      exact (STEP_main_v55_7 _).trans rfl
    obtain ⟨h0, h1, h2, h3, h4, h5⟩ := trip_keeps m c n
    rw [hs, (layer m c).after_succ ⟨n, hn⟩]
    refine (step_state (trip m c n) ⟨n, hn⟩ (trip_counter m c n) b h v k).trans ?_
    rw [h1, h2, h3, h4, h5, entry_mask, entry_value, entry_decay, entry_gain, trip_state n (Nat.le_of_succ_le hn),
      show (fun j => st (trip m c n) (ix4 b h v j)) = (layer m c).after n b h v from
        funext fun j => trip_state n (Nat.le_of_succ_le hn) b h v j,
      show (fun j => ks (entryContents preI m c) (ix4 ⟨n, hn⟩ b h j)) = (layer m c).key b ⟨n, hn⟩ h from
        funext fun j => entry_key m c ⟨n, hn⟩ b h j]

/-- The rows already written are what their tokens read. -/
theorem trip_out : ∀ (n : ℕ), n ≤ 1024 → ∀ (s : Fin 1024), s.val < n → ∀ (b : Fin 2) (h : Fin 16) (v : Fin 64),
    ys (trip m c n) (ix4 s b h v) = (layer m c).read b s h v
  | 0, _, s, hs, _, _, _ => absurd hs (Nat.not_lt_zero _)
  | n + 1, hn, s, hlt, b, h, v => by
    have hy : ys (trip m c (n + 1)) = step_main_v55_8 (trip m c n) := by
      unfold ys
      rw [trip_succ]
      exact STEP_main_v55_8 _
    have hs : st (trip m c (n + 1)) = res_main_while0b_v81 (trip m c n) := by
      unfold st
      rw [trip_succ]
      exact (STEP_main_v55_7 _).trans rfl
    obtain ⟨h0, h1, h2, h3, h4, h5⟩ := trip_keeps m c n
    rw [hy]
    refine (step_out (trip m c n) ⟨n, hn⟩ (trip_counter m c n) s b h v).trans ?_
    by_cases e : s = ⟨n, hn⟩
    · subst e
      rw [if_pos rfl, h5, entry_mask, ← hs]
      unfold Cert.Delta.Layer.read
      congr 1
      refine Finset.sum_congr rfl fun k _ => ?_
      rw [h0, entry_query]
      exact congrArg (· * _) (trip_state m c (n + 1) hn b h v k)
    · rw [if_neg e]
      refine trip_out n (Nat.le_of_succ_le hn) s (Nat.lt_of_le_of_ne (Nat.le_of_lt_succ hlt) fun e' => e (Fin.ext e')) b h v

/-- The product with the output weight. -/
theorem product_apply (Y : FVec Ideal S1024x2x16x64 .f32) (w : FVec Ideal S1024x1024 .f32) (b : Fin 2) (s j : Fin 1024) :
    Host.dotGeneral dot_S2x1024x1024_S1024x1024_S2x1024x1024_2_0_01_1_n_n none (shapeCast S2x1024x1024 (transpose S2x1024x16x64 [1, 0, 2, 3] Y
      transposes_S1024x2x16x64_S2x1024x16x64_1_0_2_3) shapeCasts_S2x1024x16x64_S2x1024x1024) w (ix3 b s j)
      = ∑ i, Y (ix4 s b (Cert.Delta.head i) (Cert.Delta.within i)) * w (ix2 i j) := by
  pointwise

/-- The reference's output. -/
theorem out_apply (b : Fin 2) (s j : Fin 1024) :
    (show FVec Ideal S2x1024x1024 .f32 from out_main_v58 (trip m c 1024)) (ix3 b s j) = (layer m c).output b s j := by
  refine (product_apply (ys (trip m c 1024)) _ b s j).trans ?_
  unfold Cert.Delta.Layer.output
  refine Finset.sum_congr rfl fun i _ => ?_
  exact congrArg₂ (· * ·) (trip_out m c 1024 le_rfl s s.isLt b _ _) (congrFun (iter_main_arg8 m c 1024) (ix2 i j))

end Entry
end Cert.ReferenceIdeal.Value

end
-- ==== Proof.Values.Clip.lean ====
module

public import proofs.«01_k».proof.Pre_within_clip
public import proofs.«01_k».proof.Proof.Values.Spec
public import Idealize.ShloMosaic.Lib.Pipeline.ValueKit
public import Idealize.ShloMosaic.Lib.Pointwise
public import Idealize.ShloMosaic.Lib.ReduceAll

@[expose] public section

set_option maxRecDepth 16384

noncomputable section

/-! # The precondition, read back -/

namespace Cert.Pre_within_clip.Hand

open Idealize.ShloMosaic

/-- The side conditions of the predicate's operations. -/
instance facts : Cert.Pre_within_clip.Facts where
  slices_S2x1024_S2x1_0_0 := by decide
  shapeCasts_S2x1_S2 := by decide
  shapeCasts_S2_S2x1x1x1 := by decide
  bcast_S_S2x16x64x64 := by decide
  bcast_S2x1x1x1_S2x16x64x64_0_1_2_3 := by decide
  reducesTo_S2x16x64x64_S_d0_1_2_3 := by decide
  h_S_ := by decide

/-- Bit `or`: one of the two is set. -/
theorem ori_one : ∀ p q : BitVec 1, p ||| q = 1#1 → p = 1#1 ∨ q = 1#1 := by decide

theorem high_low : Cert.Delta.low = -Cert.Delta.high := by
  simp [Cert.Delta.low, Cert.Delta.high, Ideal.ofBits, Ideal.ieee, -EReal.coe_mul]

theorem low_le_high : Cert.Delta.low ≤ Cert.Delta.high := by
  simp only [Cert.Delta.low, Cert.Delta.high, Ideal.ofBits, Ideal.ieee]
  simp [-EReal.coe_mul]
  rw [← EReal.coe_neg, EReal.coe_le_coe_iff]
  norm_num

/-- What the predicate says of an entry of the state. -/
theorem entry {a0 : FVec Ideal S2x1024x1024 .f32} {a1 a2 a3 a8 : FVec Ideal S1024x1024 .f32} {a4 a6 : FVec Ideal S1024x16 .f32}
    {a5 a7 : FVec Ideal S16 .f32} {a9 : FVec Ideal S2x16x64x64 .f32} {a10 : IVec S2x1024 1}
    (e : Cert.Pre_within_clip.fn (F := Ideal) a0 a1 a2 a3 a4 a5 a6 a7 a8 a9 a10 = fun _ => 1#1) (b : Fin 2) (h : Fin 16) (v k : Fin 64) :
    a10 (ix2 b 0) = 1#1 ∨ Cert.Delta.low ≤ a9 (ix4 b h v k) ∧ a9 (ix4 b h v k) ≤ Cert.Delta.high := by
  dsimp only [Cert.Pre_within_clip.fn] at e
  haveI : Subsingleton S_.Idx := ⟨fun i j => funext fun a => a.elim0⟩
  have key := Host.reduce_andi_all _ _ _ _ (fun a => a.elim0) (congrFun e _) (ix4 b h v k)
  rcases ori_one _ _ key with hm | hs
  · refine .inl (Eq.trans ?_ hm)
    pointwise
  · refine .inr ?_
    have hc : ∀ x : EReal, Ideal.cmp .ole (max x (-x)) Cert.Delta.high = 1#1 → max x (-x) ≤ Cert.Delta.high := by
      intro x hx
      by_contra hn
      simp [Ideal.cmp, hn] at hx
    have hx : max (a9 (ix4 b h v k)) (-(a9 (ix4 b h v k))) ≤ Cert.Delta.high := hc _ hs
    obtain ⟨h1, h2⟩ := max_le_iff.mp hx
    exact ⟨by rw [high_low]; exact EReal.neg_le.mp h2, h1⟩

end Cert.Pre_within_clip.Hand

end
-- ==== Proof.Values.Agree.lean ====
module

public import proofs.«01_k».proof.Defs
public import proofs.«01_k».proof.Proof.Values.Kernel
public import proofs.«01_k».proof.Proof.Values.Reference
public import proofs.«01_k».proof.Proof.Values.Clip

@[expose] public section

set_option maxRecDepth 16384

noncomputable section

namespace Cert.Proof

open Idealize.ShloMosaic Idealize.ShloMosaic.TcCoe Idealize.SL.Sem
open Cert.KernelIdeal Cert.KernelIdeal.Hand

/-! # The kernel and the reference agree -/

/-- The run of the kernel: its two results, its arguments as they were. -/
theorem kernel_run (m : (ℓ : Loc nD τ sig) → Buf (Elt Ideal) ℓ) (g : Dev nD → PrngReg) :
    θ_run (Cert.KernelIdeal.defs (F := Ideal)) (onTc (τ := τ) (Cert.KernelIdeal.main (F := Ideal))) ⟨m, fun _ => 0, g⟩ (fun r => ∀ c : Dev nD,
      r.2.mem ((c.tc : Thread nD τ).loc main_v21) = W7 m g c main_v21
      ∧ r.2.mem ((c.tc : Thread nD τ).loc main_v23) = W7 m g c main_v23
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run Cert.KernelIdeal.defs _ _).mono (fun r h c =>
    have key : ∀ a (hu : ¬ (Proc.devRef .tc a : DevRef τ sig).isScoped) (ha : a ∈ argRefs), r.2.mem ((c.tc : Thread nD τ).loc a) = m ((c.tc : Thread nD τ).loc a) := fun a hu ha =>
      (h.1 c _ (mem_uc a hu)).trans (W7_args m g c a ha)
    ⟨h.1 c _ (mem_uc main_v21 (by decide)), h.1 c _ (mem_uc main_v23 (by decide)),
      key main_arg0 (by decide) (by decide), key main_arg1 (by decide) (by decide), key main_arg2 (by decide) (by decide), key main_arg3 (by decide) (by decide), key main_arg4 (by decide) (by decide), key main_arg5 (by decide) (by decide), key main_arg6 (by decide) (by decide), key main_arg7 (by decide) (by decide), key main_arg8 (by decide) (by decide), key main_arg9 (by decide) (by decide), key main_arg10 (by decide) (by decide)⟩) (run_all m g)

/-- Equal arguments, one layer. -/
theorem layers_eq (m : (ℓ : Loc nD τ sig) → Buf (Elt Ideal) ℓ)
    (m' : (ℓ : Loc Cert.ReferenceIdeal.nD Cert.ReferenceIdeal.τ Cert.ReferenceIdeal.sig) → Buf (Elt Ideal) ℓ) (c : Dev nD)
    (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1))
    (h2 : m' ((c.tc : Thread Cert.ReferenceIdeal.nD Cert.ReferenceIdeal.τ).loc Cert.ReferenceIdeal.main_arg2) = m ((c.tc : Thread nD τ).loc main_arg2))
    (h3 : m' ((c.tc : Thread Cert.ReferenceIdeal.nD Cert.ReferenceIdeal.τ).loc Cert.ReferenceIdeal.main_arg3) = m ((c.tc : Thread nD τ).loc main_arg3))
    (h4 : m' ((c.tc : Thread Cert.ReferenceIdeal.nD Cert.ReferenceIdeal.τ).loc Cert.ReferenceIdeal.main_arg4) = m ((c.tc : Thread nD τ).loc main_arg4))
    (h5 : m' ((c.tc : Thread Cert.ReferenceIdeal.nD Cert.ReferenceIdeal.τ).loc Cert.ReferenceIdeal.main_arg5) = m ((c.tc : Thread nD τ).loc main_arg5))
    (h6 : m' ((c.tc : Thread Cert.ReferenceIdeal.nD Cert.ReferenceIdeal.τ).loc Cert.ReferenceIdeal.main_arg6) = m ((c.tc : Thread nD τ).loc main_arg6))
    (h7 : m' ((c.tc : Thread Cert.ReferenceIdeal.nD Cert.ReferenceIdeal.τ).loc Cert.ReferenceIdeal.main_arg7) = m ((c.tc : Thread nD τ).loc main_arg7))
    (h8 : m' ((c.tc : Thread Cert.ReferenceIdeal.nD Cert.ReferenceIdeal.τ).loc Cert.ReferenceIdeal.main_arg8) = m ((c.tc : Thread nD τ).loc main_arg8))
    (h9 : m' ((c.tc : Thread Cert.ReferenceIdeal.nD Cert.ReferenceIdeal.τ).loc Cert.ReferenceIdeal.main_arg9) = m ((c.tc : Thread nD τ).loc main_arg9))
    (h10 : m' ((c.tc : Thread Cert.ReferenceIdeal.nD Cert.ReferenceIdeal.τ).loc Cert.ReferenceIdeal.main_arg10) = m ((c.tc : Thread nD τ).loc main_arg10)) :
    Cert.ReferenceIdeal.Value.layer m' c = layer m c := by
  unfold Cert.ReferenceIdeal.Value.layer layer
  congr 1
  · funext b s i; exact congrFun h0 (ix3 b s i : S2x1024x1024.Idx)
  · funext i j; exact congrFun h1 (ix2 i j : S1024x1024.Idx)
  · funext i j; exact congrFun h2 (ix2 i j : S1024x1024.Idx)
  · funext i j; exact congrFun h3 (ix2 i j : S1024x1024.Idx)
  · funext i j; exact congrFun h4 (ix2 i j : S1024x16.Idx)
  · funext j; exact congrFun h5 (ix1 j : S16.Idx)
  · funext i j; exact congrFun h6 (ix2 i j : S1024x16.Idx)
  · funext j; exact congrFun h7 (ix1 j : S16.Idx)
  · funext i j; exact congrFun h8 (ix2 i j : S1024x1024.Idx)
  · funext b h v k; exact congrFun h9 (ix4 b h v k : S2x16x64x64.Idx)
  · funext b s; exact congrFun h10 (ix2 b s : S2x1024.Idx)

theorem algebraic : Cert.algebraic_KernelIdeal_ReferenceIdeal_pre_within_clip := by
  intro m g m' g' hpre hargs
  refine ⟨fun c => W7 m g c main_v21, fun c => W7 m g c main_v23, kernel_run m g, ?_⟩
  refine (θ_run Cert.ReferenceIdeal.defs _ _).mono (fun r h c => ?_) (Cert.ReferenceIdeal.Value.run m' g')
  obtain ⟨e0, e1, e⟩ := h c
  obtain ⟨h0, h1, h2, h3, h4, h5, h6, h7, h8, h9, h10⟩ := hargs c
  have hl := layers_eq m m' c h0 h1 h2 h3 h4 h5 h6 h7 h8 h9 h10
  have hin : ∀ b h v k, (layer m c).mask b 0 = 1#1
      ∨ Cert.Delta.low ≤ (layer m c).state b h v k ∧ (layer m c).state b h v k ≤ Cert.Delta.high :=
    fun b h v k => Cert.Pre_within_clip.Hand.entry (hpre c) b h v k
  have hlh := Cert.Pre_within_clip.Hand.low_le_high
  refine ⟨e0.trans ?_, e1.trans ?_, e⟩
  · funext i
    obtain ⟨b, s, j, rfl⟩ : ∃ b s j, i = (ix3 b s j : S2x1024x1024.Idx) := ⟨_, _, _, eq_ix3 i⟩
    exact (Cert.ReferenceIdeal.Value.out_apply m' c b s j).trans
      ((congrArg (fun L : Cert.Delta.Layer => L.output b s j) hl).trans (result_out m g c hin hlh b s j).symm)
  · funext i
    obtain ⟨b, h, v, k, rfl⟩ : ∃ b h v k, i = (ix4 b h v k : S2x16x64x64.Idx) := ⟨_, _, _, _, eq_ix4 i⟩
    exact (Cert.ReferenceIdeal.Value.trip_state m' c 1024 le_rfl b h v k).trans
      ((congrArg (fun L : Cert.Delta.Layer => L.after 1024 b h v k) hl).trans (result_state m g c hin hlh b h v k).symm)

end Cert.Proof

end
-- ==== Proof.lean ====
module

public import proofs.«01_k».proof.Defs
public import proofs.«01_k».proof.Proof.Kernel.Run
public import proofs.«01_k».proof.Proof.KernelIdeal.Run
public import proofs.«01_k».proof.Proof.Gen.ReferenceIdeal
public import proofs.«01_k».proof.Proof.Gen.ReferenceIdeal.Run
public import proofs.«01_k».proof.Proof.Values.Agree
public import Idealize.ShloMosaic.Lib.Quiescent

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  Cert.Pre_within_clip.Hand.facts,
  fun m g _ => Cert.Kernel.Hand.frame m g,
  fun m g _ => Cert.KernelIdeal.Hand.frame m g,
  fun m g _ => Cert.KernelIdeal.Hand.frame m g,
  fun m g _ => (θ_run _ _ _).mono (fun r h => ⟨fun c => (h c).2.2, sem_eq_zero_of_no_sems rfl r.2⟩)
    (Cert.ReferenceIdeal.Value.run m g),
  fun m g _ => (θ_run _ _ _).mono (fun r h => ⟨fun c => (h c).2.2, sem_eq_zero_of_no_sems rfl r.2⟩)
    (Cert.ReferenceIdeal.Value.run m g),
  trivial, algebraic⟩

end Cert.Proof

end
